-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "temp" .f32 0x3D5105EC#32 (((Real.sqrt 384)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x384x128x128 : Shape := ⟨4, ![8, 384, 128, 128]⟩
abbrev S384x384 : Shape := ⟨2, ![384, 384]⟩
abbrev S384x1x3x3 : Shape := ⟨4, ![384, 1, 3, 3]⟩
abbrev S_ : Shape := ⟨0, ![]⟩

class Facts : Prop where
  bcast_S_S8x384x128x128 : S_.BroadcastsInDim S8x384x128x128 (![] : Fin 0 → Fin S8x384x128x128.rank)
  reducesTo_S8x384x128x128_S_d0_1_2_3 : S8x384x128x128.ReducesTo [0, 1, 2, 3] S_
  h_S_ : 0 < S_.numel
  bcast_S_S384x384 : S_.BroadcastsInDim S384x384 (![] : Fin 0 → Fin S384x384.rank)
  reducesTo_S384x384_S_d0_1 : S384x384.ReducesTo [0, 1] S_
  bcast_S_S384x1x3x3 : S_.BroadcastsInDim S384x1x3x3 (![] : Fin 0 → Fin S384x1x3x3.rank)
  reducesTo_S384x1x3x3_S_d0_1_2_3 : S384x1x3x3.ReducesTo [0, 1, 2, 3] S_

variable [Facts]

def fn_part1 {F : FTy → Type} [FloatOps F] (main_v13 : IVec S_ 1) (main_v16 : IVec S384x384 1) : IVec S_ 1 :=
  let main_c_5 : IVec S_ 1 := constantI S_ 1 1#1
  let main_v17 : IVec S_ 1 := (fun x v => Host.reduce IntOp.andi x v reducesTo_S384x384_S_d0_1 h_S_) main_v16 main_c_5
  let main_v18 : IVec S_ 1 := andi main_v13 main_v17
  main_v18

def fn {F : FTy → Type} [FloatOps F] (main_arg0 : FVec F S8x384x128x128 .f32) (main_arg1 : FVec F S384x384 .f32) (main_arg2 : FVec F S384x1x3x3 .f32) (main_arg3 : FVec F S384x384 .f32) : IVec S_ 1 :=
  let main_v0 : FVec F S8x384x128x128 .f32 := Host.absf main_arg0
  let main_cst : FVec F S_ .f32 := constant S_ .f32 0x7F800000#32
  let main_v1 : FVec F S8x384x128x128 .f32 := broadcastInDim S8x384x128x128 ![] bcast_S_S8x384x128x128 main_cst
  let main_v2 : IVec S8x384x128x128 1 := cmpf .olt main_v0 main_v1
  let main_c : IVec S_ 1 := constantI S_ 1 1#1
  let main_v3 : IVec S_ 1 := (fun x v => Host.reduce IntOp.andi x v reducesTo_S8x384x128x128_S_d0_1_2_3 h_S_) main_v2 main_c
  let main_v4 : FVec F S384x384 .f32 := Host.absf main_arg1
  let main_cst_0 : FVec F S_ .f32 := constant S_ .f32 0x7F800000#32
  let main_v5 : FVec F S384x384 .f32 := broadcastInDim S384x384 ![] bcast_S_S384x384 main_cst_0
  let main_v6 : IVec S384x384 1 := cmpf .olt main_v4 main_v5
  let main_c_1 : IVec S_ 1 := constantI S_ 1 1#1
  let main_v7 : IVec S_ 1 := (fun x v => Host.reduce IntOp.andi x v reducesTo_S384x384_S_d0_1 h_S_) main_v6 main_c_1
  let main_v8 : IVec S_ 1 := andi main_v3 main_v7
  let main_v9 : FVec F S384x1x3x3 .f32 := Host.absf main_arg2
  let main_cst_2 : FVec F S_ .f32 := constant S_ .f32 0x7F800000#32
  let main_v10 : FVec F S384x1x3x3 .f32 := broadcastInDim S384x1x3x3 ![] bcast_S_S384x1x3x3 main_cst_2
  let main_v11 : IVec S384x1x3x3 1 := cmpf .olt main_v9 main_v10
  let main_c_3 : IVec S_ 1 := constantI S_ 1 1#1
  let main_v12 : IVec S_ 1 := (fun x v => Host.reduce IntOp.andi x v reducesTo_S384x1x3x3_S_d0_1_2_3 h_S_) main_v11 main_c_3
  let main_v13 : IVec S_ 1 := andi main_v8 main_v12
  let main_v14 : FVec F S384x384 .f32 := Host.absf main_arg3
  let main_cst_4 : FVec F S_ .f32 := constant S_ .f32 0x7F800000#32
  let main_v15 : FVec F S384x384 .f32 := broadcastInDim S384x384 ![] bcast_S_S384x384 main_cst_4
  let main_v16 : IVec S384x384 1 := cmpf .olt main_v14 main_v15
  fn_part1 (F := F) main_v13 main_v16
-- ==== Kernel.lean ====
abbrev S8x384x128x128 : Shape := ⟨4, ![8, 384, 128, 128]⟩
abbrev S384x384 : Shape := ⟨2, ![384, 384]⟩
abbrev S384x1x3x3 : Shape := ⟨4, ![384, 1, 3, 3]⟩
abbrev S384x9 : Shape := ⟨2, ![384, 9]⟩
abbrev S8x384x384 : Shape := ⟨3, ![8, 384, 384]⟩
abbrev S1x384x32x128 : Shape := ⟨4, ![1, 384, 32, 128]⟩
abbrev S1x384x384 : Shape := ⟨3, ![1, 384, 384]⟩
abbrev S384x32x128 : Shape := ⟨3, ![384, 32, 128]⟩
abbrev S384x4096 : Shape := ⟨2, ![384, 4096]⟩
abbrev S384 : Shape := ⟨1, ![384]⟩
abbrev S384x1 : Shape := ⟨2, ![384, 1]⟩
abbrev S1x384x8x128 : Shape := ⟨4, ![1, 384, 8, 128]⟩
abbrev S384x4352 : Shape := ⟨2, ![384, 4352]⟩
abbrev S1x384x1x128 : Shape := ⟨4, ![1, 384, 1, 128]⟩
abbrev S384x1x128 : Shape := ⟨3, ![384, 1, 128]⟩
abbrev S384x128 : Shape := ⟨2, ![384, 128]⟩
abbrev S384x4095 : Shape := ⟨2, ![384, 4095]⟩

abbrev nBuf : Space → Nat
  | .hbm => 7
  | .vmem => 19
  | .smem => 0
  | _ => 0

abbrev bufTy : (tb : Table) → Fin (tcTables nBuf tb) → BufTy
  | .hbm, ⟨0, _⟩ => ⟨S8x384x128x128, .f32⟩
  | .hbm, ⟨1, _⟩ => ⟨S384x384, .f32⟩
  | .hbm, ⟨2, _⟩ => ⟨S384x1x3x3, .f32⟩
  | .hbm, ⟨3, _⟩ => ⟨S384x384, .f32⟩
  | .hbm, ⟨4, _⟩ => ⟨S384x9, .f32⟩
  | .hbm, ⟨5, _⟩ => ⟨S8x384x384, .f32⟩
  | .hbm, ⟨6, _⟩ => ⟨S8x384x128x128, .f32⟩
  | .local _ .vmem, ⟨0, _⟩ => ⟨S1x384x32x128, .f32⟩
  | .local _ .vmem, ⟨1, _⟩ => ⟨S1x384x32x128, .f32⟩
  | .local _ .vmem, ⟨2, _⟩ => ⟨S384x384, .f32⟩
  | .local _ .vmem, ⟨3, _⟩ => ⟨S1x384x384, .f32⟩
  | .local _ .vmem, ⟨4, _⟩ => ⟨S1x384x384, .f32⟩
  | .local _ .vmem, ⟨5, _⟩ => ⟨S384x384, .f32⟩
  | .local _ .vmem, ⟨6, _⟩ => ⟨S1x384x384, .f32⟩
  | .local _ .vmem, ⟨7, _⟩ => ⟨S1x384x384, .f32⟩
  | .local _ .vmem, ⟨8, _⟩ => ⟨S384x384, .f32⟩
  | .local _ .vmem, ⟨9, _⟩ => ⟨S384x9, .f32⟩
  | .local _ .vmem, ⟨10, _⟩ => ⟨S1x384x32x128, .f32⟩
  | .local _ .vmem, ⟨11, _⟩ => ⟨S1x384x32x128, .f32⟩
  | .local _ .vmem, ⟨12, _⟩ => ⟨S1x384x8x128, .f32⟩
  | .local _ .vmem, ⟨13, _⟩ => ⟨S1x384x8x128, .f32⟩
  | .local _ .vmem, ⟨14, _⟩ => ⟨S1x384x8x128, .f32⟩
  | .local _ .vmem, ⟨15, _⟩ => ⟨S1x384x8x128, .f32⟩
  | .local _ .vmem, ⟨16, _⟩ => ⟨S1x384x32x128, .f32⟩
  | .local _ .vmem, ⟨17, _⟩ => ⟨S1x384x32x128, .f32⟩
  | .local _ .vmem, ⟨18, _⟩ => ⟨S384x4352, .f32⟩
  | _, _ => ⟨S8x384x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨3, ![1, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, arg2.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x384x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x384x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 8, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, arg2.toNat, c0_i32_0.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli arg2 c4_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v1.toNat, c0_i32_0.toNat, v4.toNat, c0_i32_1.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli arg2 c4_i32
  let c4_i32_0 : BitVec 32 := 4#32
  let v3 : BitVec 32 := Scalar.addi v2 c4_i32_0
  let c15_i32 : BitVec 32 := 15#32
  let v4 : BitVec 32 := Scalar.minsi v3 c15_i32
  let c0_i32 : BitVec 32 := 0#32
  let c0_i32_1 : BitVec 32 := 0#32
  let c0_i32_2 : BitVec 32 := 0#32
  ![v1.toNat, c0_i32.toNat, v4.toNat, c0_i32_1.toNat]

def cc1_transform_6 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, arg2.toNat, c0_i32_0.toNat]

abbrev stage1_0 : Fin 2 → Memref sig .tc .vmem S1x384x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 1 → Memref sig .tc .vmem S384x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 1 → Memref sig .tc .vmem S384x9 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 2 → Memref sig .tc .vmem S1x384x32x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x384x8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x384x8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S1x384x32x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]
-- ==== KernelIdeal.lean ====
variable {F : FTy → Type} [FloatOps F] [Named F]
def κ : String → Option EReal := fun
  | "mask" => some ⊥
  | "temp" => some (((Real.sqrt 384)⁻¹ : ℝ) : EReal)
  | _ => none
-- ==== ReferenceIdeal.lean ====
abbrev S8x384x128x128 : Shape := ⟨4, ![8, 384, 128, 128]⟩
abbrev S384x384 : Shape := ⟨2, ![384, 384]⟩
abbrev S384x1x3x3 : Shape := ⟨4, ![384, 1, 3, 3]⟩
abbrev S_ : Shape := ⟨0, ![]⟩
abbrev S384x8x128x128 : Shape := ⟨4, ![384, 8, 128, 128]⟩
abbrev S8x384x130x130 : Shape := ⟨4, ![8, 384, 130, 130]⟩
abbrev S384x1x1x1 : Shape := ⟨4, ![384, 1, 1, 1]⟩
abbrev S384 : Shape := ⟨1, ![384]⟩
abbrev S1x384x1x1 : Shape := ⟨4, ![1, 384, 1, 1]⟩
abbrev S8x8x48x16384 : Shape := ⟨4, ![8, 8, 48, 16384]⟩
abbrev S8x8x48x48 : Shape := ⟨4, ![8, 8, 48, 48]⟩
abbrev S8x8x48 : Shape := ⟨3, ![8, 8, 48]⟩
abbrev S8x8x48x1 : Shape := ⟨4, ![8, 8, 48, 1]⟩

abbrev nBuf : Space → Nat
  | .hbm => 101
  | .vmem => 0
  | .smem => 0
  | _ => 0

abbrev bufTy : (tb : Table) → Fin (tcTables nBuf tb) → BufTy
  | .hbm, ⟨0, _⟩ => ⟨S8x384x128x128, .f32⟩
  | .hbm, ⟨1, _⟩ => ⟨S384x384, .f32⟩
  | .hbm, ⟨2, _⟩ => ⟨S384x1x3x3, .f32⟩
  | .hbm, ⟨3, _⟩ => ⟨S384x384, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S384x8x128x128, .f32⟩
  | .hbm, ⟨9, _⟩ => ⟨S8x384x128x128, .f32⟩
  | .hbm, ⟨10, _⟩ => ⟨S_, .i32⟩
  | .hbm, ⟨11, _⟩ => ⟨S_, .f32⟩
  | .hbm, ⟨12, _⟩ => ⟨S8x384x130x130, .f32⟩
  | .hbm, ⟨13, _⟩ => ⟨S_, .f32⟩
  | .hbm, ⟨14, _⟩ => ⟨S8x384x128x128, .f32⟩
  | .hbm, ⟨15, _⟩ => ⟨S384x1x1x1, .f32⟩
  | .hbm, ⟨16, _⟩ => ⟨S384, .f32⟩
  | .hbm, ⟨17, _⟩ => ⟨S1x384x1x1, .f32⟩
  | .hbm, ⟨18, _⟩ => ⟨S8x384x128x128, .f32⟩
  | .hbm, ⟨19, _⟩ => ⟨S8x384x128x128, .f32⟩
  | .hbm, ⟨20, _⟩ => ⟨S8x384x128x128, .f32⟩
  | .hbm, ⟨21, _⟩ => ⟨S8x384x128x128, .f32⟩
  | .hbm, ⟨22, _⟩ => ⟨S384x1x1x1, .f32⟩
  | .hbm, ⟨23, _⟩ => ⟨S384, .f32⟩
  | .hbm, ⟨24, _⟩ => ⟨S1x384x1x1, .f32⟩
  | .hbm, ⟨25, _⟩ => ⟨S8x384x128x128, .f32⟩
  | .hbm, ⟨26, _⟩ => ⟨S8x384x128x128, .f32⟩
  | .hbm, ⟨27, _⟩ => ⟨S8x384x128x128, .f32⟩
  | .hbm, ⟨28, _⟩ => ⟨S8x384x128x128, .f32⟩
  | .hbm, ⟨29, _⟩ => ⟨S384x1x1x1, .f32⟩
  | .hbm, ⟨30, _⟩ => ⟨S384, .f32⟩
  | .hbm, ⟨31, _⟩ => ⟨S1x384x1x1, .f32⟩
  | .hbm, ⟨32, _⟩ => ⟨S8x384x128x128, .f32⟩
  | .hbm, ⟨33, _⟩ => ⟨S8x384x128x128, .f32⟩
  | .hbm, ⟨34, _⟩ => ⟨S8x384x128x128, .f32⟩
  | .hbm, ⟨35, _⟩ => ⟨S8x384x128x128, .f32⟩
  | .hbm, ⟨36, _⟩ => ⟨S384x1x1x1, .f32⟩
  | .hbm, ⟨37, _⟩ => ⟨S384, .f32⟩
  | .hbm, ⟨38, _⟩ => ⟨S1x384x1x1, .f32⟩
  | .hbm, ⟨39, _⟩ => ⟨S8x384x128x128, .f32⟩
  | .hbm, ⟨40, _⟩ => ⟨S8x384x128x128, .f32⟩
  | .hbm, ⟨41, _⟩ => ⟨S8x384x128x128, .f32⟩
  | .hbm, ⟨42, _⟩ => ⟨S8x384x128x128, .f32⟩
  | .hbm, ⟨43, _⟩ => ⟨S384x1x1x1, .f32⟩
  | .hbm, ⟨44, _⟩ => ⟨S384, .f32⟩
  | .hbm, ⟨45, _⟩ => ⟨S1x384x1x1, .f32⟩
  | .hbm, ⟨46, _⟩ => ⟨S8x384x128x128, .f32⟩
  | .hbm, ⟨47, _⟩ => ⟨S8x384x128x128, .f32⟩
  | .hbm, ⟨48, _⟩ => ⟨S8x384x128x128, .f32⟩
  | .hbm, ⟨49, _⟩ => ⟨S8x384x128x128, .f32⟩
  | .hbm, ⟨50, _⟩ => ⟨S384x1x1x1, .f32⟩
  | .hbm, ⟨51, _⟩ => ⟨S384, .f32⟩
  | .hbm, ⟨52, _⟩ => ⟨S1x384x1x1, .f32⟩
  | .hbm, ⟨53, _⟩ => ⟨S8x384x128x128, .f32⟩
  | .hbm, ⟨54, _⟩ => ⟨S8x384x128x128, .f32⟩
  | .hbm, ⟨55, _⟩ => ⟨S8x384x128x128, .f32⟩
  | .hbm, ⟨56, _⟩ => ⟨S8x384x128x128, .f32⟩
  | .hbm, ⟨57, _⟩ => ⟨S384x1x1x1, .f32⟩
  | .hbm, ⟨58, _⟩ => ⟨S384, .f32⟩
  | .hbm, ⟨59, _⟩ => ⟨S1x384x1x1, .f32⟩
  | .hbm, ⟨60, _⟩ => ⟨S8x384x128x128, .f32⟩
  | .hbm, ⟨61, _⟩ => ⟨S8x384x128x128, .f32⟩
  | .hbm, ⟨62, _⟩ => ⟨S8x384x128x128, .f32⟩
  | .hbm, ⟨63, _⟩ => ⟨S8x384x128x128, .f32⟩
  | .hbm, ⟨64, _⟩ => ⟨S384x1x1x1, .f32⟩
  | .hbm, ⟨65, _⟩ => ⟨S384, .f32⟩
  | .hbm, ⟨66, _⟩ => ⟨S1x384x1x1, .f32⟩
  | .hbm, ⟨67, _⟩ => ⟨S8x384x128x128, .f32⟩
  | .hbm, ⟨68, _⟩ => ⟨S8x384x128x128, .f32⟩
  | .hbm, ⟨69, _⟩ => ⟨S8x384x128x128, .f32⟩
  | .hbm, ⟨70, _⟩ => ⟨S8x384x128x128, .f32⟩
  | .hbm, ⟨71, _⟩ => ⟨S384x1x1x1, .f32⟩
  | .hbm, ⟨72, _⟩ => ⟨S384, .f32⟩
  | .hbm, ⟨73, _⟩ => ⟨S1x384x1x1, .f32⟩
  | .hbm, ⟨74, _⟩ => ⟨S8x384x128x128, .f32⟩
  | .hbm, ⟨75, _⟩ => ⟨S8x384x128x128, .f32⟩
  | .hbm, ⟨76, _⟩ => ⟨S8x384x128x128, .f32⟩
  | .hbm, ⟨77, _⟩ => ⟨S8x384x128x128, .f32⟩
  | .hbm, ⟨78, _⟩ => ⟨S8x8x48x16384, .f32⟩
  | .hbm, ⟨79, _⟩ => ⟨S8x8x48x16384, .f32⟩
  | .hbm, ⟨80, _⟩ => ⟨S8x8x48x48, .f32⟩
  | .hbm, ⟨81, _⟩ => ⟨S8x8x48x48, .f32⟩
  | .hbm, ⟨82, _⟩ => ⟨S8x8x48x48, .f32⟩
  | .hbm, ⟨83, _⟩ => ⟨S_, .f32⟩
  | .hbm, ⟨84, _⟩ => ⟨S8x8x48, .f32⟩
  | .hbm, ⟨85, _⟩ => ⟨S_, .f32⟩
  | .hbm, ⟨86, _⟩ => ⟨S8x8x48, .f32⟩
  | .hbm, ⟨87, _⟩ => ⟨S8x8x48, .f32⟩
  | .hbm, ⟨88, _⟩ => ⟨S8x8x48x1, .f32⟩
  | .hbm, ⟨89, _⟩ => ⟨S8x8x48x48, .f32⟩
  | .hbm, ⟨90, _⟩ => ⟨S8x8x48x48, .f32⟩
  | .hbm, ⟨91, _⟩ => ⟨S8x8x48x48, .f32⟩
  | .hbm, ⟨92, _⟩ => ⟨S_, .f32⟩
  | .hbm, ⟨93, _⟩ => ⟨S8x8x48, .f32⟩
  | .hbm, ⟨94, _⟩ => ⟨S8x8x48x1, .f32⟩
  | .hbm, ⟨95, _⟩ => ⟨S8x8x48x48, .f32⟩
  | .hbm, ⟨96, _⟩ => ⟨S8x8x48x48, .f32⟩
  | .hbm, ⟨97, _⟩ => ⟨S8x8x48x16384, .f32⟩
  | .hbm, ⟨98, _⟩ => ⟨S8x384x128x128, .f32⟩
  | .hbm, ⟨99, _⟩ => ⟨S384x8x128x128, .f32⟩
  | .hbm, ⟨100, _⟩ => ⟨S8x384x128x128, .f32⟩
  | _, _ => ⟨S8x384x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_cst_2 : Ref sig .tc := ⟨.hbm, 83, rfl⟩
abbrev main_v74 : Ref sig .tc := ⟨.hbm, 84, rfl⟩
abbrev main_cst_3 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_cst_4 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩

abbrev nD : Nat := 1
abbrev τ : Topo := Topo.v7x

variable {F : FTy → Type} [FloatOps F]
-- ==== Proof.KernelIdeal.AttnBase.lean ====
/-
  The first call, `sga_attn`: the windows' blocks, the branch conditions of its body in closed form over the grid
  points, where its output is idle, and the invariant between points taken apart.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what each buffer holds when the call is entered: the call is proved from any contents
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates. -/
abbrev cond0_0 (i : grid0.Coords) : Prop := (Scalar.cmpi .ne (Scalar.extui (Scalar.cmpi .eq (BitVec.ofNat 32 (i 2).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 32 := Nat.lt_of_lt_of_eq t.isLt N_0
    have e0 : (grid0.coords t 0).val = t.val / 32 % 1 := Pipeline.Grid.coords_val t 0 (by decide) rfl
    have e1 : (grid0.coords t 1).val = t.val / 4 % 8 := Pipeline.Grid.coords_val t 1 (by decide) rfl
    have e2 : (grid0.coords t 2).val = t.val / 1 % 4 := Pipeline.Grid.coords_val t 2 (by decide) rfl
    simp only [cond0_0, e0, e1, e2]
    word_cmp
   : ∀ t : Fin grid0.N, cond0_0 (grid0.coords t) ↔ t.val % 4 = 0)

/-- The condition of the body's `scf.if` 1 (`k0_h2`), from the grid coordinates. -/
abbrev cond0_1 (i : grid0.Coords) : Prop := k0_cond2 i = 1#1
/-- It holds at the points ≡ 3 (mod 4) — by arithmetic of the point. -/
theorem hcond0_1 : ∀ t : Fin cfg0.N, cond0_1 (grid0.coords t) ↔ t.val % 4 = 3 :=
  (fun t => by
    have ht : t.val < 32 := Nat.lt_of_lt_of_eq t.isLt N_0
    have e0 : (grid0.coords t 0).val = t.val / 32 % 1 := Pipeline.Grid.coords_val t 0 (by decide) rfl
    have e1 : (grid0.coords t 1).val = t.val / 4 % 8 := Pipeline.Grid.coords_val t 1 (by decide) rfl
    have e2 : (grid0.coords t 2).val = t.val / 1 % 4 := Pipeline.Grid.coords_val t 2 (by decide) rfl
    simp only [cond0_1, k0_cond2, e0, e1, e2]
    word_cmp
   : ∀ t : Fin grid0.N, cond0_1 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- At the points of case A the printed configuration (`Cfg.idle`) calls output 2 idle: the case stores nothing into it. -/
theorem idleAt0_2_A : ∀ t : Fin cfg0.N, cond0_0 (grid0.coords t) → ¬cond0_1 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → (cfg0.win 2).flush t = false := by decide +kernel
/-- At the points of case B the printed configuration (`Cfg.idle`) calls output 2 idle: the case stores nothing into it. -/
theorem idleAt0_2_B : ∀ t : Fin cfg0.N, ¬cond0_0 (grid0.coords t) → ¬cond0_1 (grid0.coords t) → cfg0.idle 2 (grid0.coords t) = true := by decide +kernel
/-- At the points of case B the pipeline does not write output 2's block back. -/
theorem noFlush0_2_B : ∀ t : Fin cfg0.N, ¬cond0_0 (grid0.coords t) → ¬cond0_1 (grid0.coords t) → (cfg0.win 2).flush t = false := by decide +kernel
/-- At the points of case C the printed configuration (`Cfg.idle`) calls output 2 live: the case stores into it. -/
theorem liveAt0_2_C : ∀ t : Fin cfg0.N, ¬cond0_0 (grid0.coords t) → cond0_1 (grid0.coords t) → cfg0.idle 2 (grid0.coords t) = false := by decide +kernel

/-! ## The kernel body on any staging memrefs: a subtype the run finds -/

/-- One staging buffer of output window 2, through which its contents are stated (`View.read_writes_of_cover`: the
    choice does not matter). -/
abbrev VO0_2 : View sig .tc .vmem S1x384x384 .f32 := (Memref.whole cc0_stg2_0 : Memref sig .tc .vmem S1x384x384 .f32).view
/-- Each window's current staging memref at point `t`, spelled as the pipeline passes it (`bodyAt0`), and its wholeness. -/
abbrev ms0_0 (t : Fin cfg0.N) : Memref sig .tc .vmem S1x384x32x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S384x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x384x384 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S384x384 .f32 := Memref.whole cc0_scratch0
/-- The scratch `arg6` the kernel carries between points, as a view: what it holds is stated through it. -/
abbrev VS0_0 : View sig .tc .vmem S384x384 .f32 := scM0_0.view

/-- What the invariant holds beside the scratch: the scoped buffers of the other call, each whole at some contents, and the
    generator register at some state. -/
def rest0 (c : Dev nD) : sProp 𝕄 :=
  iprop(((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))
    ∗ ∃ r, prngReg c r)

/-- The invariant the call is entered with: the scratch at some contents, and the rest. -/
theorem PhiA0_eq (c : Dev nD) :
    (Pipeline.ΦA spec0 c : sProp 𝕄)
      = iprop(iprop((∃ d, owns (c : Thread nD τ) scM0_0 fullShare d)) ∗ rest0 c) := by
  unfold Pipeline.ΦA rest0; rw [scopedRest0_eq]; simp only [scM0_0, owns_whole]
  exact Idealize.SL.BI.Entails.antisymm Idealize.SL.BI.sep_assoc Idealize.SL.BI.sep_assoc'

end Cert.KernelIdeal.Attn

end
-- ==== Proof.KernelIdeal.AttnRunA.lean ====
/-
  The first call at the points ≡ 0 (mod 4): the scratch is zeroed and the first product added; what the stores leave.
-/
module

public import proofs.«01_k».proof.Proof.KernelIdeal.AttnBase

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what each buffer holds when the call is entered: the call is proved from any contents
variable (V : (c : Dev nD) → (b : Ref sig .tc) → Buf (Elt F) ((c : Thread nD τ).loc b))

set_option maxHeartbeats 1000000 in
/-- What the body's stores leave in each output's staging memref, as pieces (last first) IN CASE A (`scf.if` 0 taken, `scf.if` 1 not taken: points 0, 4, … 28: 8 of 32), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .vmem S1x384x32x128 .f32) (harg3 : arg3.IsWhole) (arg4 : Memref sig .tc .vmem S384x384 .f32) (harg4 : arg4.IsWhole) (arg5 : Memref sig .tc .vmem S1x384x384 .f32) (harg5 : arg5.IsWhole) (arg6 : Memref sig .tc .vmem S384x384 .f32) (harg6 : arg6.IsWhole) (hc0 : cond0_0 i) (hc1 : ¬cond0_1 i)
    (x0 : Vec F S1x384x32x128 .f32) (x1 : Vec F S384x384 .f32) :
    Σ' (L2 : List (View.Piece (Elt F) S1x384x384 .f32)), { LS0 : List (View.Piece (Elt F) S384x384 .f32) //
      ∀ (xi2 : Vec F S1x384x384 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0_sga_attn i arg3 harg3 arg4 harg4 arg5 harg5 arg6 harg6) K } := by
  refine ⟨[], ?_, fun xi2 E K => ?run⟩
  case run =>
    simp only [cc0_sga_attn_eq_skeleton]; unfold cc0_sga_attn_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Attn

end
-- ==== Proof.KernelIdeal.AttnRunB.lean ====
/-
  The first call at the points ≡ 1, 2 (mod 4): a product is added to the scratch; what the stores leave.
-/
module

public import proofs.«01_k».proof.Proof.KernelIdeal.AttnRunA

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what each buffer holds when the call is entered: the call is proved from any contents
variable (V : (c : Dev nD) → (b : Ref sig .tc) → Buf (Elt F) ((c : Thread nD τ).loc b))

set_option maxHeartbeats 1000000 in
/-- What the body's stores leave in each output's staging memref, as pieces (last first) IN CASE B (`scf.if` 0 not taken, `scf.if` 1 not taken: points 1, 2, … 30: 16 of 32), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg3 : Memref sig .tc .vmem S1x384x32x128 .f32) (harg3 : arg3.IsWhole) (arg4 : Memref sig .tc .vmem S384x384 .f32) (harg4 : arg4.IsWhole) (arg5 : Memref sig .tc .vmem S1x384x384 .f32) (harg5 : arg5.IsWhole) (arg6 : Memref sig .tc .vmem S384x384 .f32) (harg6 : arg6.IsWhole) (hc0 : ¬cond0_0 i) (hc1 : ¬cond0_1 i)
    (x0 : Vec F S1x384x32x128 .f32) (x1 : Vec F S384x384 .f32) (xs0 : Vec F S384x384 .f32) :
    Σ' (L2 : List (View.Piece (Elt F) S1x384x384 .f32)), { LS0 : List (View.Piece (Elt F) S384x384 .f32) //
      ∀ (xi2 : Vec F S1x384x384 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0_sga_attn i arg3 harg3 arg4 harg4 arg5 harg5 arg6 harg6) K } := by
  refine ⟨[], ?_, fun xi2 E K => ?run⟩
  case run =>
    simp only [cc0_sga_attn_eq_skeleton]; unfold cc0_sga_attn_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Attn

end
-- ==== Proof.KernelIdeal.AttnRunC.lean ====
/-
  The first call at the points ≡ 3 (mod 4): the last product is added and the output block written; what the stores leave.
-/
module

public import proofs.«01_k».proof.Proof.KernelIdeal.AttnRunB

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what each buffer holds when the call is entered: the call is proved from any contents
variable (V : (c : Dev nD) → (b : Ref sig .tc) → Buf (Elt F) ((c : Thread nD τ).loc b))

set_option maxHeartbeats 1000000 in
/-- What the body's stores leave in each output's staging memref, as pieces (last first) IN CASE C (`scf.if` 0 not taken, `scf.if` 1 taken: points 3, 7, … 31: 8 of 32), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg3 : Memref sig .tc .vmem S1x384x32x128 .f32) (harg3 : arg3.IsWhole) (arg4 : Memref sig .tc .vmem S384x384 .f32) (harg4 : arg4.IsWhole) (arg5 : Memref sig .tc .vmem S1x384x384 .f32) (harg5 : arg5.IsWhole) (arg6 : Memref sig .tc .vmem S384x384 .f32) (harg6 : arg6.IsWhole) (hc0 : ¬cond0_0 i) (hc1 : cond0_1 i)
    (x0 : Vec F S1x384x32x128 .f32) (x1 : Vec F S384x384 .f32) (xs0 : Vec F S384x384 .f32) :
    Σ' (L2 : List (View.Piece (Elt F) S1x384x384 .f32)), { LS0 : List (View.Piece (Elt F) S384x384 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0_sga_attn i arg3 harg3 arg4 harg4 arg5 harg5 arg6 harg6) K } := by
  refine ⟨?_, ?_, fun E K => ?run⟩
  case run =>
    simp only [cc0_sga_attn_eq_skeleton]; unfold cc0_sga_attn_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Attn

end
-- ==== Proof.KernelIdeal.AttnFrame.lean ====
/-
  The first call: what its output and its scratch hold point by point, the proof data of its pipeline and the body
  obligation at every point.
-/
module

public import proofs.«01_k».proof.Proof.KernelIdeal.AttnRunC
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what each buffer holds when the call is entered: the call is proved from any contents
variable (V : (c : Dev nD) → (b : Ref sig .tc) → Buf (Elt F) ((c : Thread nD τ).loc b))

/-- Case A stores nothing into output 2 (the window is idle at its points and not written back there):
    no pieces — a placeholder (junk read back) that nothing consults, since at these points the window is neither
    written back nor read at the next point (Lib/Pipeline.lean "Idle points"). -/
def out0_A_2 (c : Dev nD) (i : grid0.Coords) (arg3 : Memref sig .tc .vmem S1x384x32x128 .f32) (harg3 : arg3.IsWhole) (arg4 : Memref sig .tc .vmem S384x384 .f32) (harg4 : arg4.IsWhole) (arg5 : Memref sig .tc .vmem S1x384x384 .f32) (harg5 : arg5.IsWhole) (arg6 : Memref sig .tc .vmem S384x384 .f32) (harg6 : arg6.IsWhole) (hc0 : cond0_0 i) (hc1 : ¬cond0_1 i)
    (x0 : Vec F S1x384x32x128 .f32) (x1 : Vec F S384x384 .f32) : Vec F S1x384x384 .f32 :=
  VO0_2.read (Elt F) (VO0_2.writes (Elt F) VO0_2.junk (kernelRun0_A c i arg3 harg3 arg4 harg4 arg5 harg5 arg6 harg6 hc0 hc1 x0 x1).1)

/-- Case A's pieces for scratch `arg6`, which the kernel carries between points, cover it: 2 pieces of `S384x384` tiling it (Lib/Ring.lean `Piece.tiledL`). -/
theorem scover0_A_0 (c : Dev nD) (i : grid0.Coords) (arg3 : Memref sig .tc .vmem S1x384x32x128 .f32) (harg3 : arg3.IsWhole) (arg4 : Memref sig .tc .vmem S384x384 .f32) (harg4 : arg4.IsWhole) (arg5 : Memref sig .tc .vmem S1x384x384 .f32) (harg5 : arg5.IsWhole) (arg6 : Memref sig .tc .vmem S384x384 .f32) (harg6 : arg6.IsWhole) (hc0 : cond0_0 i) (hc1 : ¬cond0_1 i)
    (x0 : Vec F S1x384x32x128 .f32) (x1 : Vec F S384x384 .f32) (y : S384x384.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S384x384.size (by sl_kernel_rfl) y

/-- What case A leaves in scratch `arg6`: its pieces read back over junk. -/
def sout0_A_0 (c : Dev nD) (i : grid0.Coords) (arg3 : Memref sig .tc .vmem S1x384x32x128 .f32) (harg3 : arg3.IsWhole) (arg4 : Memref sig .tc .vmem S384x384 .f32) (harg4 : arg4.IsWhole) (arg5 : Memref sig .tc .vmem S1x384x384 .f32) (harg5 : arg5.IsWhole) (arg6 : Memref sig .tc .vmem S384x384 .f32) (harg6 : arg6.IsWhole) (hc0 : cond0_0 i) (hc1 : ¬cond0_1 i)
    (x0 : Vec F S1x384x32x128 .f32) (x1 : Vec F S384x384 .f32) : Vec F S384x384 .f32 :=
  VS0_0.read (Elt F) (VS0_0.writes (Elt F) VS0_0.junk (kernelRun0_A c i arg3 harg3 arg4 harg4 arg5 harg5 arg6 harg6 hc0 hc1 x0 x1).2.1)

/-- Case B stores nothing into output 2 (the window is idle at its points and not written back there):
    no pieces — a placeholder (junk read back) that nothing consults, since at these points the window is neither
    written back nor read at the next point (Lib/Pipeline.lean "Idle points"). -/
def out0_B_2 (c : Dev nD) (i : grid0.Coords) (arg3 : Memref sig .tc .vmem S1x384x32x128 .f32) (harg3 : arg3.IsWhole) (arg4 : Memref sig .tc .vmem S384x384 .f32) (harg4 : arg4.IsWhole) (arg5 : Memref sig .tc .vmem S1x384x384 .f32) (harg5 : arg5.IsWhole) (arg6 : Memref sig .tc .vmem S384x384 .f32) (harg6 : arg6.IsWhole) (hc0 : ¬cond0_0 i) (hc1 : ¬cond0_1 i)
    (x0 : Vec F S1x384x32x128 .f32) (x1 : Vec F S384x384 .f32) (xs0 : Vec F S384x384 .f32) : Vec F S1x384x384 .f32 :=
  VO0_2.read (Elt F) (VO0_2.writes (Elt F) VO0_2.junk (kernelRun0_B c i arg3 harg3 arg4 harg4 arg5 harg5 arg6 harg6 hc0 hc1 x0 x1 xs0).1)

/-- Case B's pieces for scratch `arg6`, which the kernel carries between points, cover it: 1 piece of `S384x384` tiling it (Lib/Ring.lean `Piece.tiledL`). -/
theorem scover0_B_0 (c : Dev nD) (i : grid0.Coords) (arg3 : Memref sig .tc .vmem S1x384x32x128 .f32) (harg3 : arg3.IsWhole) (arg4 : Memref sig .tc .vmem S384x384 .f32) (harg4 : arg4.IsWhole) (arg5 : Memref sig .tc .vmem S1x384x384 .f32) (harg5 : arg5.IsWhole) (arg6 : Memref sig .tc .vmem S384x384 .f32) (harg6 : arg6.IsWhole) (hc0 : ¬cond0_0 i) (hc1 : ¬cond0_1 i)
    (x0 : Vec F S1x384x32x128 .f32) (x1 : Vec F S384x384 .f32) (xs0 : Vec F S384x384 .f32) (y : S384x384.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S384x384.size (by sl_kernel_rfl) y

/-- What case B leaves in scratch `arg6`: its pieces read back over junk. -/
def sout0_B_0 (c : Dev nD) (i : grid0.Coords) (arg3 : Memref sig .tc .vmem S1x384x32x128 .f32) (harg3 : arg3.IsWhole) (arg4 : Memref sig .tc .vmem S384x384 .f32) (harg4 : arg4.IsWhole) (arg5 : Memref sig .tc .vmem S1x384x384 .f32) (harg5 : arg5.IsWhole) (arg6 : Memref sig .tc .vmem S384x384 .f32) (harg6 : arg6.IsWhole) (hc0 : ¬cond0_0 i) (hc1 : ¬cond0_1 i)
    (x0 : Vec F S1x384x32x128 .f32) (x1 : Vec F S384x384 .f32) (xs0 : Vec F S384x384 .f32) : Vec F S384x384 .f32 :=
  VS0_0.read (Elt F) (VS0_0.writes (Elt F) VS0_0.junk (kernelRun0_B c i arg3 harg3 arg4 harg4 arg5 harg5 arg6 harg6 hc0 hc1 x0 x1 xs0).2.1)

/-- Case C's pieces for output 2 tile its block (1 store of `S1x384x384`), so they cover it. -/
theorem cover0_C_2 (c : Dev nD) (i : grid0.Coords) (arg3 : Memref sig .tc .vmem S1x384x32x128 .f32) (harg3 : arg3.IsWhole) (arg4 : Memref sig .tc .vmem S384x384 .f32) (harg4 : arg4.IsWhole) (arg5 : Memref sig .tc .vmem S1x384x384 .f32) (harg5 : arg5.IsWhole) (arg6 : Memref sig .tc .vmem S384x384 .f32) (harg6 : arg6.IsWhole) (hc0 : ¬cond0_0 i) (hc1 : cond0_1 i)
    (x0 : Vec F S1x384x32x128 .f32) (x1 : Vec F S384x384 .f32) (xs0 : Vec F S384x384 .f32) (y : S1x384x384.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1x384x384.size (by sl_kernel_rfl) y

/-- What case C leaves in output 2's staging buffer: its pieces read back over junk. -/
def out0_C_2 (c : Dev nD) (i : grid0.Coords) (arg3 : Memref sig .tc .vmem S1x384x32x128 .f32) (harg3 : arg3.IsWhole) (arg4 : Memref sig .tc .vmem S384x384 .f32) (harg4 : arg4.IsWhole) (arg5 : Memref sig .tc .vmem S1x384x384 .f32) (harg5 : arg5.IsWhole) (arg6 : Memref sig .tc .vmem S384x384 .f32) (harg6 : arg6.IsWhole) (hc0 : ¬cond0_0 i) (hc1 : cond0_1 i)
    (x0 : Vec F S1x384x32x128 .f32) (x1 : Vec F S384x384 .f32) (xs0 : Vec F S384x384 .f32) : Vec F S1x384x384 .f32 :=
  VO0_2.read (Elt F) (VO0_2.writes (Elt F) VO0_2.junk (kernelRun0_C c i arg3 harg3 arg4 harg4 arg5 harg5 arg6 harg6 hc0 hc1 x0 x1 xs0).1)

/-- Case C's pieces for scratch `arg6`, which the kernel carries between points, cover it: 1 piece of `S384x384` tiling it (Lib/Ring.lean `Piece.tiledL`). -/
theorem scover0_C_0 (c : Dev nD) (i : grid0.Coords) (arg3 : Memref sig .tc .vmem S1x384x32x128 .f32) (harg3 : arg3.IsWhole) (arg4 : Memref sig .tc .vmem S384x384 .f32) (harg4 : arg4.IsWhole) (arg5 : Memref sig .tc .vmem S1x384x384 .f32) (harg5 : arg5.IsWhole) (arg6 : Memref sig .tc .vmem S384x384 .f32) (harg6 : arg6.IsWhole) (hc0 : ¬cond0_0 i) (hc1 : cond0_1 i)
    (x0 : Vec F S1x384x32x128 .f32) (x1 : Vec F S384x384 .f32) (xs0 : Vec F S384x384 .f32) (y : S384x384.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S384x384.size (by sl_kernel_rfl) y

/-- What case C leaves in scratch `arg6`: its pieces read back over junk. -/
def sout0_C_0 (c : Dev nD) (i : grid0.Coords) (arg3 : Memref sig .tc .vmem S1x384x32x128 .f32) (harg3 : arg3.IsWhole) (arg4 : Memref sig .tc .vmem S384x384 .f32) (harg4 : arg4.IsWhole) (arg5 : Memref sig .tc .vmem S1x384x384 .f32) (harg5 : arg5.IsWhole) (arg6 : Memref sig .tc .vmem S384x384 .f32) (harg6 : arg6.IsWhole) (hc0 : ¬cond0_0 i) (hc1 : cond0_1 i)
    (x0 : Vec F S1x384x32x128 .f32) (x1 : Vec F S384x384 .f32) (xs0 : Vec F S384x384 .f32) : Vec F S384x384 .f32 :=
  VS0_0.read (Elt F) (VS0_0.writes (Elt F) VS0_0.junk (kernelRun0_C c i arg3 harg3 arg4 harg4 arg5 harg5 arg6 harg6 hc0 hc1 x0 x1 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x384x384 .f32 × Vec F S384x384 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩))
  | n + 1, hn =>
    if h0 : (n + 1) % 4 = 0 then
      if h1 : (n + 1) % 4 = 3 then
        False.elim (by have hN : n + 1 < 32 := lt_of_lt_of_eq hn (show cfg0.N = 32 from N_0); omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (outsAt0 c n (Nat.lt_of_succ_lt hn)).2)

/-- `outsAt0` at a point of case A: that case's contents. -/
theorem outsAt0_A (c : Dev nD) (t : Fin cfg0.N) (h0 : t.val % 4 = 0) (h1 : ¬t.val % 4 = 3) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk V c 0 t) (iblk V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk V c 0 t) (iblk V c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : ¬t.val % 4 = 3) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk V c 0 t) (iblk V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk V c 0 t) (iblk V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 4 = 0) (h1 : t.val % 4 = 3) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk V c 0 t) (iblk V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk V c 0 t) (iblk V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2)) ∗ rest0 c)

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2)) ∗ rest0 c) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2)) ∗ rest0 c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt0 V c t.val t.isLt).1
  Φ t := PhiS V c t.val (Nat.le_of_lt_succ t.isLt)
  q _ := fullShare
  owed _ := 0

/-- The proof data's arrays are the region-entry contents. -/
theorem A_eq (c : Dev nD) (w : Fin cfg0.W) : (dat V c).A w = V c (Pipeline.arrRef spec0 w) := by
  dsimp only [dat]

/-- The invariant at a point's start (the proof data at `t.castSucc`), restated at `t.val`. -/
theorem PhiS_castSucc (c : Dev nD) (t : Fin cfg0.N) :
    (dat V c).Φ t.castSucc = PhiS V c t.val (Nat.le_of_lt t.isLt) := by
  dsimp only [dat]; exact Pipeline.Dat.Φ_castSucc (PhiS V c) t

/-- What the body leaves, window by window. -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = (outsAt0 V c t.val t.isLt).1 := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [Dat.leavesExact_idle (dat V c) 2 t (idleAt0_2_A t ((hcond0_0 t).mpr h0) (fun h => h1 ((hcond0_1 t).mp h))) (noFlush0_2_A t ((hcond0_0 t).mpr h0) (fun h => h1 ((hcond0_1 t).mp h)))]
      by_cases hz : t.val = 0
      · rw [PhiS_castSucc V c t, PhiS_zero V c _ _ hz, PhiA0_eq]
        rw [outsAt0_A V c t h0 h1]
        unfold sout0_A_0; (try dsimp only)
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk V c 0 t) (iblk V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc V c t, PhiS_pos V c _ _ hz]
        rw [outsAt0_A V c t h0 h1]
        unfold sout0_A_0; (try dsimp only)
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk V c 0 t) (iblk V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · by_cases h1 : t.val % 4 = 3
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2_C t (fun h => h0 ((hcond0_0 t).mp h)) ((hcond0_1 t).mpr h1)], after0_2]
      by_cases hz : t.val = 0
      · exfalso; have hN : t.val < 32 := lt_of_lt_of_eq t.isLt (show cfg0.N = 32 from N_0); omega
      · rw [PhiS_castSucc V c t, PhiS_pos V c _ _ hz]
        rw [outsAt0_C V c t h0 h1]
        unfold out0_C_2 sout0_C_0; (try dsimp only)
        iintro ⟨⟨HS0, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk V c 0 t) (iblk V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [Dat.leavesExact_idle (dat V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      by_cases hz : t.val = 0
      · exfalso; have hN : t.val < 32 := lt_of_lt_of_eq t.isLt (show cfg0.N = 32 from N_0); omega
      · rw [PhiS_castSucc V c t, PhiS_pos V c _ _ hz]
        rw [outsAt0_B V c t h0 h1]
        unfold sout0_B_0; (try dsimp only)
        iintro ⟨⟨HS0, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk V c 0 t) (iblk V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _)
          iexact Hg
        isplitl [Ho]; · iexact Ho
        isplitl [H0]; · iexact H0
        isplitl [H1]; · iexact H1
        iexists _; iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- What the launch hands the region (`ΦA`) is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dat V c).Φ (Fin.last cfg0.N) ⊢ Pipeline.ΦA spec0 c :=
  Phi_out V c _ (by rw [Fin.val_last]; have : cfg0.N = 32 := N_0; omega)

end Cert.KernelIdeal.Attn

end
-- ==== Proof.KernelIdeal.ConvBase.lean ====
/-
  The second call, `sga_main`: the windows' blocks and the invariant between points taken apart.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what each buffer holds when the call is entered: the call is proved from any contents
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 6, through which its contents are stated (`View.read_writes_of_cover`: the
    choice does not matter). -/
abbrev VO1_6 : View sig .tc .vmem S1x384x32x128 .f32 := (Memref.whole cc1_stg6_0 : Memref sig .tc .vmem S1x384x32x128 .f32).view
/-- Each window's current staging memref at point `t`, spelled as the pipeline passes it (`bodyAt1`), and its wholeness. -/
abbrev ms1_0 (t : Fin cfg1.N) : Memref sig .tc .vmem S1x384x384 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S384x384 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S384x9 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x384x32x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x384x8x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x384x8x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x384x32x128 .f32 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S384x4352 .f32 := Memref.whole cc1_scratch0

/-- What the invariant holds beside the scratch: the scoped buffers of the other call, each whole at some contents, and the
    generator register at some state. -/
def rest1 (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))
    ∗ ∃ r, prngReg c r)

/-- The invariant the call is entered with: the scratch at some contents, and the rest. -/
theorem PhiA1_eq (c : Dev nD) :
    (Pipeline.ΦA spec1 c : sProp 𝕄)
      = iprop(iprop((∃ d, owns (c : Thread nD τ) scM1_0 fullShare d)) ∗ rest1 c) := by
  unfold Pipeline.ΦA rest1
  rw [Pipeline.scopedRest_eq_of_list spec1 c [cc1_scratch0, cc0_stg0_0, cc0_stg0_1, cc0_stg1_0, cc0_stg2_0, cc0_stg2_1, cc0_scratch0] (by decide) (by decide)]
  simp only [scM1_0, owns_whole]
  exact Idealize.SL.BI.Entails.antisymm Idealize.SL.BI.sep_assoc Idealize.SL.BI.sep_assoc'

end Cert.KernelIdeal.Conv

end
-- ==== Proof.KernelIdeal.ConvRun.lean ====
/-
  The second call at any point: what its stores leave.
-/
module

public import proofs.«01_k».proof.Proof.KernelIdeal.ConvBase

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what each buffer holds when the call is entered: the call is proved from any contents
variable (V : (c : Dev nD) → (b : Ref sig .tc) → Buf (Elt F) ((c : Thread nD τ).loc b))

set_option maxHeartbeats 1000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`*_eq_skeleton`), which `sl_exec` runs (Lib/Exec.lean); the pieces are
    the witness that run finds (assigned when `iexact` hands the buffer to the continuation). -/
noncomputable def kernelRun1_A (c : Dev nD) (i : grid1.Coords) (arg3 : Memref sig .tc .vmem S1x384x384 .f32) (harg3 : arg3.IsWhole) (arg4 : Memref sig .tc .vmem S384x384 .f32) (harg4 : arg4.IsWhole) (arg5 : Memref sig .tc .vmem S384x9 .f32) (harg5 : arg5.IsWhole) (arg6 : Memref sig .tc .vmem S1x384x32x128 .f32) (harg6 : arg6.IsWhole) (arg7 : Memref sig .tc .vmem S1x384x8x128 .f32) (harg7 : arg7.IsWhole) (arg8 : Memref sig .tc .vmem S1x384x8x128 .f32) (harg8 : arg8.IsWhole) (arg9 : Memref sig .tc .vmem S1x384x32x128 .f32) (harg9 : arg9.IsWhole) (arg10 : Memref sig .tc .vmem S384x4352 .f32) (harg10 : arg10.IsWhole)
    (x0 : Vec F S1x384x384 .f32) (x1 : Vec F S384x384 .f32) (x2 : Vec F S384x9 .f32) (x3 : Vec F S1x384x32x128 .f32) (x4 : Vec F S1x384x8x128 .f32) (x5 : Vec F S1x384x8x128 .f32) :
    Σ' (L6 : List (View.Piece (Elt F) S1x384x32x128 .f32)), { LT0 : List (View.Piece (Elt F) S384x4352 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LT0)) -∗ K ⟨⟩))
          ⊢ wp frame (wpE (defs₀ (F := F)) Variants.none c none) E (cc1_sga_main i arg3 harg3 arg4 harg4 arg5 harg5 arg6 harg6 arg7 harg7 arg8 harg8 arg9 harg9 arg10 harg10) K } := by
  refine ⟨?_, ?_, fun E K => ?run⟩
  case run =>
    simp only [cc1_sga_main_eq_skeleton]; unfold cc1_sga_main_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS0

end Cert.KernelIdeal.Conv

end
-- ==== Proof.KernelIdeal.ConvFrame.lean ====
/-
  The second call: what its output holds point by point, the proof data of its pipeline and the body obligation at
  every point.
-/
module

public import proofs.«01_k».proof.Proof.KernelIdeal.ConvRun
public import Idealize.ShloMosaic.Lib.Claim

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what each buffer holds when the call is entered: the call is proved from any contents
variable (V : (c : Dev nD) → (b : Ref sig .tc) → Buf (Elt F) ((c : Thread nD τ).loc b))

/-- The run's pieces for output 6 tile its block (1 store of `S1x384x32x128`), so they cover it. -/
theorem cover1_A_6 (c : Dev nD) (i : grid1.Coords) (arg3 : Memref sig .tc .vmem S1x384x384 .f32) (harg3 : arg3.IsWhole) (arg4 : Memref sig .tc .vmem S384x384 .f32) (harg4 : arg4.IsWhole) (arg5 : Memref sig .tc .vmem S384x9 .f32) (harg5 : arg5.IsWhole) (arg6 : Memref sig .tc .vmem S1x384x32x128 .f32) (harg6 : arg6.IsWhole) (arg7 : Memref sig .tc .vmem S1x384x8x128 .f32) (harg7 : arg7.IsWhole) (arg8 : Memref sig .tc .vmem S1x384x8x128 .f32) (harg8 : arg8.IsWhole) (arg9 : Memref sig .tc .vmem S1x384x32x128 .f32) (harg9 : arg9.IsWhole) (arg10 : Memref sig .tc .vmem S384x4352 .f32) (harg10 : arg10.IsWhole)
    (x0 : Vec F S1x384x384 .f32) (x1 : Vec F S384x384 .f32) (x2 : Vec F S384x9 .f32) (x3 : Vec F S1x384x32x128 .f32) (x4 : Vec F S1x384x8x128 .f32) (x5 : Vec F S1x384x8x128 .f32) (y : S1x384x32x128.Idx) :
    ∃ pc ∈ (kernelRun1_A c i arg3 harg3 arg4 harg4 arg5 harg5 arg6 harg6 arg7 harg7 arg8 harg8 arg9 harg9 arg10 harg10 x0 x1 x2 x3 x4 x5).1, y ∈ pc.1.set :=
  View.cover_of_tiledL (kernelRun1_A c i arg3 harg3 arg4 harg4 arg5 harg5 arg6 harg6 arg7 harg7 arg8 harg8 arg9 harg9 arg10 harg10 x0 x1 x2 x3 x4 x5).1 S1x384x32x128.size (by sl_kernel_rfl) y

/-- What the run leaves in output 6's staging buffer: its pieces read back over junk. -/
def out1_A_6 (c : Dev nD) (i : grid1.Coords) (arg3 : Memref sig .tc .vmem S1x384x384 .f32) (harg3 : arg3.IsWhole) (arg4 : Memref sig .tc .vmem S384x384 .f32) (harg4 : arg4.IsWhole) (arg5 : Memref sig .tc .vmem S384x9 .f32) (harg5 : arg5.IsWhole) (arg6 : Memref sig .tc .vmem S1x384x32x128 .f32) (harg6 : arg6.IsWhole) (arg7 : Memref sig .tc .vmem S1x384x8x128 .f32) (harg7 : arg7.IsWhole) (arg8 : Memref sig .tc .vmem S1x384x8x128 .f32) (harg8 : arg8.IsWhole) (arg9 : Memref sig .tc .vmem S1x384x32x128 .f32) (harg9 : arg9.IsWhole) (arg10 : Memref sig .tc .vmem S384x4352 .f32) (harg10 : arg10.IsWhole)
    (x0 : Vec F S1x384x384 .f32) (x1 : Vec F S384x384 .f32) (x2 : Vec F S384x9 .f32) (x3 : Vec F S1x384x32x128 .f32) (x4 : Vec F S1x384x8x128 .f32) (x5 : Vec F S1x384x8x128 .f32) : Vec F S1x384x32x128 .f32 :=
  VO1_6.read (Elt F) (VO1_6.writes (Elt F) VO1_6.junk (kernelRun1_A c i arg3 harg3 arg4 harg4 arg5 harg5 arg6 harg6 arg7 harg7 arg8 harg8 arg9 harg9 arg10 harg10 x0 x1 x2 x3 x4 x5).1)

/-! ## What the outputs hold after each point -/

/-- What the outputs' staging buffers hold after the body at point `t`: the run's contents at
    the point's memrefs and input blocks. -/
def outsAt1 (c : Dev nD) (t : Fin cfg1.N) : Vec F S1x384x32x128 .f32 :=
  out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk V c 0 t) (iblk V c 1 t) (iblk V c 2 t) (iblk V c 3 t) (iblk V c 4 t) (iblk V c 5 t)

/-! ## The pipeline's proof data -/

/-- The proof data of the one pipeline on core `c`: the arrays as the region finds them (`V`); after the body at
    point `t` each input's buffer at its block and the outputs' at `outsAt1`; the invariant the class's
    (Lib/Pipeline/Frame.lean `ΦA`: the scoped rest and the generator register); nothing owed; each input's share of its array
    (`Pipeline.shareOf`: the full share of an array several windows stage, dealt among them). -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt1 V c t)
  Φ _ := Pipeline.ΦA spec1 c
  q w := Pipeline.shareOf spec1 w
  owed _ := 0

/-- The proof data's arrays are the region-entry contents. -/
theorem A_eq (c : Dev nD) (w : Fin cfg1.W) : (dat V c).A w = V c (Pipeline.arrRef spec1 w) := by
  dsimp only [dat]

/-- What the body leaves, window by window. -/
theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = iblk V c 4 t := by dsimp only [dat]
theorem after1_5 (c : Dev nD) (t : Fin cfg1.N) : (dat V c).after 5 t = iblk V c 5 t := by dsimp only [dat]
theorem after1_6 (c : Dev nD) (t : Fin cfg1.N) : (dat V c).after 6 t = (outsAt1 V c t) := by dsimp only [dat]

/-- Each input's current staging buffer holds its block at every point, fetched there or not (`beforeK_W_of`). -/
theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d
theorem before1_3 (c : Dev nD) (t : Fin cfg1.N) (d) : (dat V c).before 3 t d = iblk V c 3 t :=
  before1_3_of V (dat V c) (A_eq V c 3) (after1_3 V c) t d
theorem before1_4 (c : Dev nD) (t : Fin cfg1.N) (d) : (dat V c).before 4 t d = iblk V c 4 t :=
  before1_4_of V (dat V c) (A_eq V c 4) (after1_4 V c) t d
theorem before1_5 (c : Dev nD) (t : Fin cfg1.N) (d) : (dat V c).before 5 t d = iblk V c 5 t :=
  before1_5_of V (dat V c) (A_eq V c 5) (after1_5 V c) t d

/-! ## The body obligation, at a generic point -/

/-- What the body is called with at point `t` (Lib/Pipeline.lean `BodyObligation`'s precondition, the windows one by one), -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d))
    ∗ (∃ d, owns (c : Thread nD τ) (ms1_6 t) fullShare ((dat V c).before 6 t d)))

/-- and what it returns. -/
def bodyPost (c : Dev nD) (t : Fin cfg1.N) : sProp 𝕄 :=
  iprop((dat V c).Φ t.succ ∗ (dat V c).owesAt () t.succ
    ∗ owns (c : Thread nD τ) (ms1_0 t) fullShare ((dat V c).after 0 t)
    ∗ owns (c : Thread nD τ) (ms1_1 t) fullShare ((dat V c).after 1 t)
    ∗ owns (c : Thread nD τ) (ms1_2 t) fullShare ((dat V c).after 2 t)
    ∗ owns (c : Thread nD τ) (ms1_3 t) fullShare ((dat V c).after 3 t)
    ∗ owns (c : Thread nD τ) (ms1_4 t) fullShare ((dat V c).after 4 t)
    ∗ owns (c : Thread nD τ) (ms1_5 t) fullShare ((dat V c).after 5 t)
    ∗ owns (c : Thread nD τ) (ms1_6 t) fullShare ((dat V c).after 6 t))

set_option maxHeartbeats 800000 in
/-- The body at any point: the inputs' memrefs hold their blocks (`before1_W`); so the
    run applies; the invariant hands the body its scratch buffers at some contents (and the generator register) and takes them back at some contents (`PhiA_eq`); the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5]
  rw [show (dat V c).Φ t.succ = (dat V c).Φ t.castSucc from rfl,
    show (dat V c).owesAt () t.succ = (dat V c).owesAt () t.castSucc from rfl,
    after1_0, after1_1, after1_2, after1_3, after1_4, after1_5, after1_6]
  rw [show (dat V c).Φ t.castSucc = Pipeline.ΦA spec1 c from rfl, PhiA1_eq]
  unfold outsAt1
  unfold out1_A_6
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply ((kernelRun1_A c (grid1.coords t) _ _ _ _ _ _ _ _ _ _ _ _ _ _ _ _ (iblk V c 0 t) (iblk V c 1 t) (iblk V c 2 t) (iblk V c 3 t) (iblk V c 4 t) (iblk V c 5 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  iintro ⟨H0, H1, H2, H3, H4, H5, ⟨%e6, H6⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover1_A_6 c _ _ _ _ _ _ _ _ _ _ _ _ _ _ _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.KernelIdeal.Conv

end
-- ==== Proof.KernelIdeal.Run.lean ====
/-
  The two calls put together: the run of the whole program from any memory, its arguments unchanged, every counter at
  zero and its result named — the second call's output array, read from the contents the first call leaves.
-/
module

public import proofs.«01_k».proof.Proof.KernelIdeal.AttnFrame
public import proofs.«01_k».proof.Proof.KernelIdeal.ConvFrame
public import proofs.«01_k».proof.Proof.Gen.KernelIdeal.Regions
public import Idealize.ShloMosaic.Lib.Pipeline.RegionsLoop

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-! ## The contents between the items -/

/-- What the buffers hold when the first call is entered: the launch contents, the reshaped depthwise weights written. -/
abbrev W1 (c : Dev nD) (b : Ref sig .tc) : Buf (Elt F) ((c : Thread nD τ).loc b) := V1 m c b

/-- What the first call leaves in its output array. -/
def mid (c : Dev nD) : Buf (Elt F) ((c : Thread nD τ).loc main_v1) := (Attn.dat (W1 m) c).arrAt 2 cfg0.N

/-- The contents after the first call. -/
def V2' (c : Dev nD) : Valuation τ sig (Elt F) := Function.update (V1 m c) main_v1 (mid m c)

/-- What the buffers hold when the second call is entered. -/
abbrev W2 (c : Dev nD) (b : Ref sig .tc) : Buf (Elt F) ((c : Thread nD τ).loc b) := V2' m c b

/-- What the second call leaves in its output array: the program's result. -/
def result (c : Dev nD) : Buf (Elt F) ((c : Thread nD τ).loc main_v2) := (Conv.dat (W2 m) c).arrAt 6 cfg1.N

/-- What the two calls leave, as one family. -/
def outs : Outs (F := F) := fun J r c =>
  if h : r = main_v1 then h ▸ mid m c else if h : r = main_v2 then h ▸ result m c else fun _ => Classical.arbitrary _

/-- The first call's member of the family. -/
theorem outs_mid (c : Dev nD) : outs m 2 main_v1 c = mid m c := by
  unfold outs; rw [dif_pos rfl]

/-- The second call's. -/
theorem outs_result (c : Dev nD) : outs m 3 main_v2 c = result m c := by
  unfold outs; rw [dif_neg (by decide), dif_pos rfl]

/-- The contents after the first call, in the family's terms. -/
theorem V2_eq (c : Dev nD) : V2 m (outs m) c = V2' m c := by
  unfold V2'; rw [← outs_mid]

/-- The result's buffer at the end. -/
theorem V3_at (c : Dev nD) : V3 m (outs m) c (Proc.devRef .tc main_v2) = result m c := by
  rw [← outs_result]; exact Function.update_self ..

/-- The proof data of the two pipelines. -/
def pdats : (p : Fin 2) → (c : Dev nD) → Dat τ (Elt F) Unit ℕ (UR sig nD τ) ℕ (Pipeline.pin (pcfgs (F := F)) adm p) c
  | ⟨0, _⟩ => fun c => Attn.dat (W1 m) c
  | ⟨1, _⟩ => fun c => Conv.dat (W2 m) c

abbrev 𝒱₀ : Variants := Variants.none
/-- No core owes another anything: no level is assigned. -/
abbrev L : GSem nD τ sig → Finset Unit := fun _ => ∅
abbrev lv : GSem nD τ sig → Unit → ℕ := fun _ _ => 0

/-- What a core holds beside its buffers: it owes nothing, and its generator register is at some state. -/
def E (_ : Fin 3) (c : Dev nD) : sProp 𝕄 :=
  iprop((∃ W, owes (c : Thread nD τ) (0 : CellTallies nD τ sig Unit) W) ∗ ∃ r, prngReg c r)

/-! ## The first call -/

/-- The first call's output array after it. -/
theorem V2'_out (c : Dev nD) : V2' m c (Proc.devRef .tc main_v1) = mid m c := Function.update_self ..

/-- Every other array is as before it. -/
theorem V2'_ne (c : Dev nD) (b : Ref sig .tc) (h : b ≠ main_v1) : V2' m c (Proc.devRef .tc b) = V1 m c (Proc.devRef .tc b) := by
  rw [← V2_eq]; exact V2_of m (outs m) c b fun hb => h (List.mem_singleton.mp hb)

/-- The second call changes its output array only. -/
theorem V3_ne (c : Dev nD) (b : Ref sig .tc) (h : b ≠ main_v2) : V3 m (outs m) c (Proc.devRef .tc b) = V2' m c (Proc.devRef .tc b) := by
  rw [← V2_eq]; exact V3_of m (outs m) c b fun hb => h (List.mem_singleton.mp hb)

set_option backward.isDefEq.respectTransparency.types false in
/-- The first call over the thread state. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Attn.body_obligation (W1 m) c).loose
  hwaits := Pipeline.hwaits_of_owed_zero _ _ _ _ L lv 0 fun _ _ => rfl
  pre c := iprop(unscopedBufs c (W1 m c) ∗ E 0 c)
  post c := iprop(unscopedBufs c (W2 m c) ∗ E 1 c)
  X c := iprop(∃ r, prngReg c r)
  Y c := iprop(∃ r, prngReg c r)
  Z c := Pipeline.unscopedRest (Ix := Unit) (Name := ℕ) (U := UR sig nD τ) (Lvl := ℕ) spec0 c (W1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (W1 m c) fun _ => rfl
    unfold E
    iintro ⟨⟨Hub, HO, Hp⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ iprop(Pipeline.ΦA spec0 c) by
      unfold Pipeline.ΦA
      iintro ⟨Hp, -, Hr⟩
      isplitl [Hr]; · iexact Hr
      iexact Hp).trans (Attn.hin (W1 m) c)
  hout c := by
    rw [Pipeline.ownSems0_none]
    exact (Attn.hout (W1 m) c).trans (by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (W1 m c) (W2 m c) ((pdats m 0 c).arrAt · cfg0.N)
      (fun w => by
        fin_cases w
        · exact ((pdats m 0 c).arrAt_in 0 rfl _).trans (V2'_ne m c main_arg0 (by decide)).symm
        · exact ((pdats m 0 c).arrAt_in 1 rfl _).trans (V2'_ne m c main_arg3 (by decide)).symm
        · exact (V2'_out m c).symm)
      (fun b hb => V2'_ne m c b fun h => hb (h ▸ Finset.mem_image.mpr ⟨2, Finset.mem_univ _, rfl⟩))
    unfold E
    iintro ⟨Ha, HO, Hp, Hrest⟩
    imodintro
    isplitl [Ha Hrest]
    · iapply hjoin; isplitl [Ha] <;> iassumption
    isplitl [HO]
    · unfold Pipeline.Dat.owesAt Pipeline.owesWithin
      icases HO with ⟨%W, -, HO⟩; iexists W; iexact HO
    iexact Hp

/-! ## The second call -/

set_option backward.isDefEq.respectTransparency.types false in
/-- The second call over the thread state; three of its windows are on the one array `x`. -/
def reg1 : RegionSeg (pcfgs (F := F)) adm (pdats m) () defs₀ 𝒱₀ L lv 1 where
  win := winFacts₀1
  block_pos := block_pos1
  stage_whole := launch₀1.stage_whole
  K := PEmpty
  osem k := k.elim
  ho := Pipeline.OwnSemFacts.none _
  hbody c := (Conv.body_obligation (W2 m) c).loose
  hwaits := Pipeline.hwaits_of_owed_zero _ _ _ _ L lv 1 fun _ _ => rfl
  pre c := iprop(unscopedBufs c (W2 m c) ∗ E 1 c)
  post c := iprop(unscopedBufs c (fun b => V3 m (outs m) c b) ∗ E 2 c)
  X c := iprop(∃ r, prngReg c r)
  Y c := iprop(∃ r, prngReg c r)
  Z c := Pipeline.unscopedRest (Ix := Unit) (Name := ℕ) (U := UR sig nD τ) (Lvl := ℕ) spec1 c (W2 m c)
  hentry c := by
    rw [Pipeline.ownSems0_none]
    have hsplit := Pipeline.arrays_of_unscopedBufs_shared (p := 1) (pcfgs (F := F)) adm (pdats m) winFacts₀1 sharedIn1 arr_whole1 c
      (fun _ _ => rfl) (W2 m c) fun _ => rfl
    unfold E
    iintro ⟨⟨Hub, HO, Hp⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ) winFacts₀1 sharedIn1 arr_whole1 c
      (pdats m) (fun _ _ => rfl) (W2 m c) (fun b => V3 m (outs m) c b) ((pdats m 1 c).arrAt · cfg1.N)
      (fun w => by
        fin_cases w
        · exact ((pdats m 1 c).arrAt_in 0 rfl _).trans (V3_ne m c main_v1 (by decide)).symm
        · exact ((pdats m 1 c).arrAt_in 1 rfl _).trans (V3_ne m c main_arg1 (by decide)).symm
        · exact ((pdats m 1 c).arrAt_in 2 rfl _).trans (V3_ne m c main_v0 (by decide)).symm
        · exact ((pdats m 1 c).arrAt_in 3 rfl _).trans (V3_ne m c main_arg0 (by decide)).symm
        · exact ((pdats m 1 c).arrAt_in 4 rfl _).trans (V3_ne m c main_arg0 (by decide)).symm
        · exact ((pdats m 1 c).arrAt_in 5 rfl _).trans (V3_ne m c main_arg0 (by decide)).symm
        · exact (V3_at m c).symm)
      (fun b hb => V3_ne m c b fun h => hb (h ▸ Finset.mem_image.mpr ⟨6, Finset.mem_univ _, rfl⟩))
    unfold E
    iintro ⟨Ha, HO, Hp, Hrest⟩
    imodintro
    isplitl [Ha Hrest]
    · iapply hjoin; isplitl [Ha] <;> iassumption
    isplitl [HO]
    · unfold Pipeline.Dat.owesAt Pipeline.owesWithin
      icases HO with ⟨%W, -, HO⟩; iexists W; iexact HO
    iexact Hp

/-! ## The run -/

/-- What the run leaves on core `c`: the arguments as launched, the result's buffer at `result`. -/
def Left (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3))
  ∧ s.mem ((c.tc : Thread nD τ).loc main_v2) = result m c

/-- What a core holds beside its buffers at launch, before any of it is set aside. -/
abbrev Dealt (ρ : Dev nD → PrngReg) (c : Dev nD) : sProp 𝕄 :=
  iprop(unscopedSems0 c ∗ owes (c.tc : Thread nD τ) (0 : CellTallies nD τ sig Unit) ∅
    ∗ Pipeline.launchCred (fun _ => (0 : CellTallies nD τ sig Unit)) c ∗ prngReg c (ρ c) ∗ (BI.emp : sProp 𝕄))

/-- The launch's first thread state on every core. -/
theorem launch_state (ρ : Dev nD → PrngReg) :
    iprop((bigSep Finset.univ fun c : Dev nD => iprop(unscopedBufs c (fun b => m ((c.tc : Thread nD τ).loc b)) ∗ Dealt ρ c)) ∗ levAts L lv)
      ⊢ (|={Set.univ}=> bigSep Finset.univ (fun c : Dev nD => iprop(StableHlo.held (c : Thread nD τ) (Pipeline.ucRefs τ sig) (V0 m c) ∗ E 0 c)) : sProp 𝕄) := by
  have h (c : Dev nD) : iprop(unscopedBufs c (fun b => m ((c.tc : Thread nD τ).loc b)) ∗ Dealt (F := F) ρ c)
      ⊢ iprop(StableHlo.held (c : Thread nD τ) (Pipeline.ucRefs τ sig) (V0 m c) ∗ E 0 c) := by
    rw [← Pipeline.unscopedBufs_held (Ix := Unit) (Name := ℕ) (U := UR sig nD τ) (Lvl := ℕ) c (V0 m c)]
    unfold E
    iintro ⟨Hb, -, HO, -, Hp, -⟩
    isplitl [Hb]; · iexact Hb
    isplitl [HO]; · iexists _; iexact HO
    iexists _; iexact Hp
  have h' : (bigSep Finset.univ fun c : Dev nD => iprop(unscopedBufs c (fun b => m ((c.tc : Thread nD τ).loc b)) ∗ Dealt (F := F) ρ c))
      ⊢ (bigSep Finset.univ (fun c : Dev nD => iprop(StableHlo.held (c : Thread nD τ) (Pipeline.ucRefs τ sig) (V0 m c) ∗ E 0 c)) : sProp 𝕄) :=
    bigSep_mono fun c _ => h c
  iintro ⟨H, -⟩
  imodintro
  iapply h'
  iexact H

/-- The first call is entered from the contents the reshape leaves. -/
theorem pre0 (c : Dev nD) : iprop(StableHlo.held (c : Thread nD τ) (Pipeline.ucRefs τ sig) (V1 m c) ∗ E 0 c) ⊢ (reg0 m).pre c := by
  show _ ⊢ iprop(unscopedBufs c (W1 m c) ∗ E 0 c)
  rw [← Pipeline.unscopedBufs_held (Ix := Unit) (Name := ℕ) (U := UR sig nD τ) (Lvl := ℕ) c (V1 m c)]

/-- The second call is entered from what the first leaves. -/
theorem pre1 (c : Dev nD) : (reg0 m).post c ⊢ (reg1 m).pre c := .rfl

/-- The last thread state owes nothing. -/
theorem post1 (c : Dev nD) : (reg1 m).post c
    ⊢ iprop(StableHlo.held (c : Thread nD τ) (Pipeline.ucRefs τ sig) (V3 m (outs m) c) ∗ ∃ W, owes (c : Thread nD τ) (0 : CellTallies nD τ sig Unit) W) := by
  have hE : E (F := F) 2 c ⊢ iprop(∃ W, owes (c : Thread nD τ) (0 : CellTallies nD τ sig Unit) W) := by
    unfold E
    iintro ⟨HO, -⟩
    iexact HO
  exact Idealize.SL.BI.sep_mono (Entails.of_eq (Pipeline.unscopedBufs_held (Ix := Unit) (Name := ℕ) (U := UR sig nD τ) (Lvl := ℕ) c (V3 m (outs m) c))) hE

/-- Each unscoped buffer read off the last valuation. -/
theorem left_read (c : Dev nD) (s' : Phys nD τ sig (Elt F)) :
    iprop(StableHlo.held (c : Thread nD τ) (Pipeline.ucRefs τ sig) (V3 m (outs m) c) ∗ SI s') ⊢ (|={Set.univ}=> iprop(⌜Left m c s'.mem⌝ ∗ SI s') : sProp 𝕄) := by
  unfold StableHlo.held
  iintro ⟨Hh, HSI⟩
  ihave Hr := (pointsTo_read_all (Pipeline.ucRefs τ sig) (fun b => ((c : Thread nD τ).1, b)) (V3 m (outs m) c) s') $$ [Hh HSI]
  · isplitl [Hh] <;> iassumption
  icases Hr with ⟨%h, HSI⟩
  imodintro
  isplitr
  · ipureintro
    exact ⟨⟨(h (Proc.devRef .tc main_arg0) (Finset.mem_filter.mpr ⟨StableHlo.devRef_mem_tcRefs main_arg0, by decide⟩)).trans (V3_main_arg0 m (outs m) c),
      (h (Proc.devRef .tc main_arg1) (Finset.mem_filter.mpr ⟨StableHlo.devRef_mem_tcRefs main_arg1, by decide⟩)).trans (V3_main_arg1 m (outs m) c),
      (h (Proc.devRef .tc main_arg2) (Finset.mem_filter.mpr ⟨StableHlo.devRef_mem_tcRefs main_arg2, by decide⟩)).trans (V3_main_arg2 m (outs m) c),
      (h (Proc.devRef .tc main_arg3) (Finset.mem_filter.mpr ⟨StableHlo.devRef_mem_tcRefs main_arg3, by decide⟩)).trans (V3_main_arg3 m (outs m) c)⟩,
      (h (Proc.devRef .tc main_v2) (Finset.mem_filter.mpr ⟨StableHlo.devRef_mem_tcRefs main_v2, by decide⟩)).trans (V3_at m c)⟩
  · iexact HSI

set_option backward.isDefEq.respectTransparency.types false in
/-- Every weakly fair execution of the program from any memory with zero counters terminates, each argument as launched,
    the result's buffer at `result` and every counter at zero. -/
theorem run (ρ : Dev nD → PrngReg) :
    θ_run defs (onTc (τ := τ) (main (F := F))) ⟨m, fun _ => 0, ρ⟩ (fun r => (∀ c : Dev nD, Left m c r.2) ∧ r.2.sem = fun _ => 0) := by
  refine Pipeline.θ_run_regions_kit_dev_sems (pcfgs (F := F)) adm (pdats m) () cellOf_inj emb₁ defs₀ 𝒱₀ L lv m ρ main
    (segs m 𝒱₀ L lv E () (pdats m) (reg0 m) (reg1 m))
    (fun c Q => by
      rewrite [main_chain c, Seg.run_eq_chain,
        show (segs m 𝒱₀ L lv E () (pdats m) (reg0 m) (reg1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide)
    (O₀ := fun _ => 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V3 m (outs m) c))
    (hch := fun c => ⟨.rfl, pre0 m c, pre1 m c, post1 m c⟩)
    (hinit := launch_state m ρ) (QY := fun c s => Left m c s)
    (hfin := left_read m) (hQ := fun _ h hz => ⟨h, funext fun g => hz g (.inr (regions_no_unscoped g.2))⟩)

end Cert.KernelIdeal.Run

end
-- ==== Proof.Frames.lean ====
/-
  What every program of the certificate does to its arguments and counters, and the two named constants.

  The kernel (over opaque floats and over the extended reals) runs both of its calls to the end by `Run.run`; here only the part
  of that statement which speaks of arguments and counters is kept. The reference is a list of host operations.
-/
module

public import proofs.«01_k».proof.Defs
public import proofs.«01_k».proof.Proof.Kernel.Run
public import proofs.«01_k».proof.Proof.KernelIdeal.Run
public import proofs.«01_k».proof.Proof.Gen.ReferenceIdeal.Run
public import Idealize.ShloMosaic.Lib.Quiescent

@[expose] public section

noncomputable section

namespace Cert.Frames

open Idealize.ShloMosaic Idealize.SL.Sem

/-- The kernel as written: it ends, its arguments are as they were, its counters are at zero. -/
theorem kernel : Cert.quiescent_Kernel := fun m ρ _ =>
  (θ_run Cert.Kernel.defs _ _).mono (fun _ h => ⟨fun c => (h.1 c).1, h.2⟩) (Cert.Kernel.Run.run m ρ)

/-- The same of the kernel over the extended reals. -/
theorem kernelIdeal : Cert.quiescent_KernelIdeal := fun m ρ _ =>
  (θ_run Cert.KernelIdeal.defs _ _).mono (fun _ h => ⟨fun c => (h.1 c).1, h.2⟩) (Cert.KernelIdeal.Run.run m ρ)

/-- The reference ends with its arguments unchanged; host operations touch no counter. -/
theorem referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two constants that the kernel over the extended reals names: the scale is the inverse root of 384, the mask is minus
    infinity. -/
theorem preserves : Cert.preserves_Kernel_KernelIdeal :=
  ⟨IdealRules.named_const.statement Cert.KernelIdeal.κ "temp" .f32 0x3D5105EC#32 (((Real.sqrt 384)⁻¹ : ℝ) : EReal) rfl,
   IdealRules.named_const.statement Cert.KernelIdeal.κ "mask" .f32 0xF149F2CA#32 ⊥ rfl⟩

end Cert.Frames

end

end
-- ==== Proof.KernelIdeal.AttnValue.lean ====
/-
  The first call's stores read back as values: what each case leaves in the scratch, and the block of the output that
  the last case leaves.
-/
module

public import proofs.«01_k».proof.Proof.KernelIdeal.AttnFrame
public import Idealize.ShloMosaic.Lib.Pipeline.Value
public import Idealize.ShloMosaic.Lib.Pointwise

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F] [Named F]

/-- Offsets of zeros, in two, three and four dimensions. -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- At the first of a run of four points the scratch is left at the first product added to the zero block. -/
theorem sout_A (c : Dev nD) (i : grid0.Coords) (a3 : Memref sig .tc .vmem S1x384x32x128 .f32) (h3 : a3.IsWhole) (a4 : Memref sig .tc .vmem S384x384 .f32) (h4 : a4.IsWhole)
    (a5 : Memref sig .tc .vmem S1x384x384 .f32) (h5 : a5.IsWhole) (a6 : Memref sig .tc .vmem S384x384 .f32) (h6 : a6.IsWhole) (hc0 : cond0_0 i) (hc1 : ¬cond0_1 i)
    (x0 : Vec F S1x384x32x128 .f32) (x1 : Vec F S384x384 .f32) :
    sout0_A_0 c i a3 h3 a4 h4 a5 h5 a6 h6 hc0 hc1 x0 x1 = k0_pay2 x0 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S384x384) hz2, View.readCov_unit_zero (S := S384x384) _ hz2]
  simp only [View.readAt_eq_ld, h3.read_unread, View.ld_unit_zero (S := S1x384x32x128) hz4]

/-- At a point in the middle of the run the next product is added to what the scratch held. -/
theorem sout_B (c : Dev nD) (i : grid0.Coords) (a3 : Memref sig .tc .vmem S1x384x32x128 .f32) (h3 : a3.IsWhole) (a4 : Memref sig .tc .vmem S384x384 .f32) (h4 : a4.IsWhole)
    (a5 : Memref sig .tc .vmem S1x384x384 .f32) (h5 : a5.IsWhole) (a6 : Memref sig .tc .vmem S384x384 .f32) (h6 : a6.IsWhole) (hc0 : ¬cond0_0 i) (hc1 : ¬cond0_1 i)
    (x0 : Vec F S1x384x32x128 .f32) (x1 xs0 : Vec F S384x384 .f32) :
    sout0_B_0 c i a3 h3 a4 h4 a5 h5 a6 h6 hc0 hc1 x0 x1 xs0 = k0_pay2 x0 xs0 := by
  unfold sout0_B_0
  rw [View.read_writes_eq_canon _ _ _ (scover0_B_0 c i a3 h3 a4 h4 a5 h5 a6 h6 hc0 hc1 x0 x1 xs0)]
  unfold kernelRun0_B
  dsimp only
  rw [View.canon_unit_zero hz2]
  simp only [View.readAt_eq_ld, h3.read_unread, h6.read_unread, View.ld_unit_zero (S := S1x384x32x128) hz4, View.ld_unit_zero (S := S384x384) hz2]

/-- What the last case writes into the output block, from the scratch `g` it has just completed and the projection `x1`. -/
def outVal (g x1 : Vec F S384x384 .f32) : FVec F S1x384x384 .f32 :=
  k0_pay3 (k0_pay4 g) k0_pay5 (iota .tc S384x384 32 [1] iota_S384x384_d1_w32) 48#32 k0_pay6 k0_pay7 x1

/-- At the last point of the run the output block is written from the completed scratch. -/
theorem out_C (c : Dev nD) (i : grid0.Coords) (a3 : Memref sig .tc .vmem S1x384x32x128 .f32) (h3 : a3.IsWhole) (a4 : Memref sig .tc .vmem S384x384 .f32) (h4 : a4.IsWhole)
    (a5 : Memref sig .tc .vmem S1x384x384 .f32) (h5 : a5.IsWhole) (a6 : Memref sig .tc .vmem S384x384 .f32) (h6 : a6.IsWhole) (hc0 : ¬cond0_0 i) (hc1 : cond0_1 i)
    (x0 : Vec F S1x384x32x128 .f32) (x1 xs0 : Vec F S384x384 .f32) :
    out0_C_2 c i a3 h3 a4 h4 a5 h5 a6 h6 hc0 hc1 x0 x1 xs0 = outVal (k0_pay2 x0 xs0) x1 := by
  unfold out0_C_2 outVal
  rw [View.read_writes_eq_canon _ _ _ (cover0_C_2 c i a3 h3 a4 h4 a5 h5 a6 h6 hc0 hc1 x0 x1 xs0)]
  unfold kernelRun0_C
  dsimp only
  sl_unfold_words
  rw [View.canon_unit_zero hz3]
  rw [View.readCov_unit_zero (S := S384x384) _ hz2]
  simp only [View.readAt_eq_ld, h3.read_unread, h4.read_unread, h6.read_unread, View.ld_unit_zero (S := S1x384x32x128) hz4, View.ld_unit_zero (S := S384x384) hz2]

variable (V : (c : Dev nD) → (b : Ref sig .tc) → Buf (Elt F) ((c : Thread nD τ).loc b))

/-- The point `4 b + k` of the grid. -/
abbrev pt (b : Fin 8) (k : ℕ) (hk : k < 4) : Fin cfg0.N := ⟨4 * b.val + k, lt_of_lt_of_eq (by have := b.isLt; omega) N_0.symm⟩

/-- The four row blocks of a batch entry. -/
theorem k0 : 0 < 4 := by decide
theorem k1 : 1 < 4 := by decide
theorem k2 : 2 < 4 := by decide
theorem k3 : 3 < 4 := by decide

/-- What the scratch holds before the last product of batch `b` is added, and after. -/
def acc3 (c : Dev nD) (b : Fin 8) : Vec F S384x384 .f32 :=
  k0_pay2 (iblk V c 0 (pt b 2 k2)) (k0_pay2 (iblk V c 0 (pt b 1 k1)) (k0_pay2 (iblk V c 0 (pt b 0 k0)) (k0_pay1 (F := F))))
/-- The accumulator after the fourth block. -/
def acc4 (c : Dev nD) (b : Fin 8) : Vec F S384x384 .f32 := k0_pay2 (iblk V c 0 (pt b 3 k3)) (acc3 V c b)

/-- The contents after the first point of a batch entry. -/
theorem outs0 (c : Dev nD) (b : Fin 8) (h : 4 * b.val < cfg0.N) :
    (outsAt0 V c (4 * b.val) h).2 = k0_pay2 (iblk V c 0 (pt b 0 k0)) (k0_pay1 (F := F)) := by
  rw [outsAt0_A V c ⟨4 * b.val, h⟩ (by dsimp only; omega) (by dsimp only; omega)]
  dsimp only
  rw [sout_A]
  rfl

/-- After the second. -/
theorem outs1 (c : Dev nD) (b : Fin 8) (h : 4 * b.val + 1 < cfg0.N) :
    (outsAt0 V c (4 * b.val + 1) h).2 = k0_pay2 (iblk V c 0 (pt b 1 k1)) (k0_pay2 (iblk V c 0 (pt b 0 k0)) (k0_pay1 (F := F))) := by
  rw [outsAt0_B V c ⟨4 * b.val + 1, h⟩ (by dsimp only; omega) (by dsimp only; omega)]
  dsimp only
  rw [sout_B]
  exact congrArg _ (outs0 V c b _)

/-- After the third. -/
theorem outs2 (c : Dev nD) (b : Fin 8) (h : 4 * b.val + 2 < cfg0.N) :
    (outsAt0 V c (4 * b.val + 2) h).2 = acc3 V c b := by
  rw [outsAt0_B V c ⟨4 * b.val + 2, h⟩ (by dsimp only; omega) (by dsimp only; omega)]
  dsimp only
  rw [sout_B]
  exact congrArg _ (outs1 V c b _)

/-- The block that point `4 b + 3` writes back. -/
theorem outs3 (c : Dev nD) (b : Fin 8) (h : 4 * b.val + 3 < cfg0.N) :
    (outsAt0 V c (4 * b.val + 3) h).1 = outVal (acc4 V c b) (iblk V c 1 (pt b 3 k3)) := by
  rw [outsAt0_C V c ⟨4 * b.val + 3, h⟩ (by dsimp only; omega) (by dsimp only; omega)]
  dsimp only
  rw [out_C]
  exact congrArg (fun g => outVal (k0_pay2 _ g) _) (outs2 V c b _)

/-- Window 2's block indices: batch `t / 4`, the whole matrix. -/
theorem idx2 : ∀ t : Fin cfg0.N, win0_2.index t (0 : Fin 3) = t.val / 4 ∧ win0_2.index t (1 : Fin 3) = 0 ∧ win0_2.index t (2 : Fin 3) = 0 :=
  (by decide +kernel : ∀ t : Fin grid0.N, _)
/-- Window 0's block indices: batch `t / 4`, all channels, row block `t % 4`. -/
theorem idx0 : ∀ t : Fin cfg0.N, win0_0.index t (0 : Fin 4) = t.val / 4 ∧ win0_0.index t (1 : Fin 4) = 0 ∧ win0_0.index t (2 : Fin 4) = t.val % 4 ∧ win0_0.index t (3 : Fin 4) = 0 :=
  (by decide +kernel : ∀ t : Fin grid0.N, _)
/-- Window 1's block is the whole projection. -/
theorem idx1 : ∀ t : Fin cfg0.N, win0_1.index t (0 : Fin 2) = 0 ∧ win0_1.index t (1 : Fin 2) = 0 :=
  (by decide +kernel : ∀ t : Fin grid0.N, _)

/-- What the output array ends holding. -/
def final (c : Dev nD) : Buf (Elt F) ((c : Thread nD τ).loc main_v1) := fun i : S8x384x384.Idx =>
  outVal (acc4 V c (i 0)) (iblk V c 1 (pt (i 0) 3 k3)) (ValueIdx.ix3 0 (i 1) (i 2))

/-- What a write-back writes is the output block of its batch entry. -/
theorem flushed_eq (c : Dev nD) (t : Fin cfg0.N) (hf : (cfg0.win 2).flush t = true) :
    (dat V c).flushed 2 t = ((cfg0.win 2).blk t).view.read (Elt F) (final V c) := by
  show (cfg0.win 2).cut (grid0.coords t) ((dat V c).after 2 t) = _
  rw [after0_2]
  have hN : cfg0.N = 32 := N_0
  have hm : t.val % 4 = 3 := (flush0_2 t).mp hf
  obtain ⟨e0, e1, e2⟩ := idx2 t
  obtain ⟨b, rfl⟩ : ∃ b : Fin 8, t = pt b 3 k3 := ⟨⟨t.val / 4, by have := t.isLt; omega⟩, Fin.ext (by dsimp only; omega)⟩
  rw [outs3]
  funext y
  have hy0 : (y 0).val < 1 := (y 0).isLt
  have hy1 : (y 1).val < 384 := (y 1).isLt
  have hy2 : (y 2).val < 384 := (y 2).isLt
  have hb0 : (((cfg0.win 2).blk (pt b 3 k3)).view.emb y : S8x384x384.Idx) 0 = b := Fin.ext (by
    show win0_2.index (pt b 3 k3) (0 : Fin 3) * 1 + 1 * (y 0).val = _; rw [e0]; dsimp only; omega)
  have hb1 : ((((cfg0.win 2).blk (pt b 3 k3)).view.emb y : S8x384x384.Idx) 1).val = (y 1).val := by
    show win0_2.index (pt b 3 k3) (1 : Fin 3) * 384 + 1 * (y 1).val = _; rw [e1]; omega
  have hb2 : ((((cfg0.win 2).blk (pt b 3 k3)).view.emb y : S8x384x384.Idx) 2).val = (y 2).val := by
    show win0_2.index (pt b 3 k3) (2 : Fin 3) * 384 + 1 * (y 2).val = _; rw [e2]; omega
  show outVal (acc4 V c b) (iblk V c 1 (pt b 3 k3)) ((cfg0.win 2).xinj (grid0.coords (pt b 3 k3)) y) = final V c (((cfg0.win 2).blk (pt b 3 k3)).view.emb y)
  unfold final
  rw [hb0]
  congr 1
  funext a
  apply Fin.ext
  match a with
  | ⟨0, _⟩ => show (y 0).val = 0; omega
  | ⟨1, _⟩ => exact hb1.symm
  | ⟨2, _⟩ => exact hb2.symm

/-- The output array of the first call. -/
theorem arr_eq (c : Dev nD) : (dat V c).arrAt 2 cfg0.N = final V c :=
  (dat V c).arrAt_eq_of_cover 2 (final V c) (flushed_eq V c) fun i =>
    ⟨pt (i 0) 3 k3, (flush0_2 _).mpr (by have := (i 0).isLt; show (4 * (i 0).val + 3) % 4 = 3; omega), by
      show (i : S8x384x384.Idx) ∈ ((View.whole main_v1).slice (win0_2.rect (pt (i 0) 3 k3))).set
      rw [View.set_slice_whole, Rect.mem_set_unit]
      obtain ⟨e0, e1, e2⟩ := idx2 (pt (i 0) 3 k3)
      have h0 : (i 0 : Nat) < 8 := (i 0).isLt
      have h1 : (i 1 : Nat) < 384 := (i 1).isLt
      have h2 : (i 2 : Nat) < 384 := (i 2).isLt
      intro a
      match a with
      | ⟨0, _⟩ => show win0_2.index (pt (i 0) 3 k3) (0 : Fin 3) * 1 ≤ (i 0 : Nat) ∧ (i 0 : Nat) < win0_2.index (pt (i 0) 3 k3) (0 : Fin 3) * 1 + 1
                  rw [e0]; dsimp only; omega
      | ⟨1, _⟩ => show win0_2.index (pt (i 0) 3 k3) (1 : Fin 3) * 384 ≤ (i 1 : Nat) ∧ (i 1 : Nat) < win0_2.index (pt (i 0) 3 k3) (1 : Fin 3) * 384 + 384
                  rw [e1]; omega
      | ⟨2, _⟩ => show win0_2.index (pt (i 0) 3 k3) (2 : Fin 3) * 384 ≤ (i 2 : Nat) ∧ (i 2 : Nat) < win0_2.index (pt (i 0) 3 k3) (2 : Fin 3) * 384 + 384
                  rw [e2]; omega⟩

/-- The block of `x` that point `4 b + k` reads. -/
theorem iblk0_apply (c : Dev nD) (b : Fin 8) (k : ℕ) (hk : k < 4) (d : Fin 384) (r : Fin 32) (l : Fin 128) :
    (iblk V c 0 (pt b k hk) : Vec F S1x384x32x128 .f32) (ValueIdx.ix4 0 d r l)
      = (V c main_arg0 : Vec F S8x384x128x128 .f32) (ValueIdx.ix4 b d ⟨32 * k + r.val, by have := r.isLt; omega⟩ l) := by
  unfold iblk
  rw [View.read_apply]
  obtain ⟨e0, e1, e2, e3⟩ := idx0 (pt b k hk)
  show V c main_arg0 _ = V c main_arg0 _
  congr 1
  funext a
  apply Fin.ext
  match a with
  | ⟨0, _⟩ => show win0_0.index (pt b k hk) (0 : Fin 4) * 1 + 1 * 0 = b.val; rw [e0]; dsimp only; omega
  | ⟨1, _⟩ => show win0_0.index (pt b k hk) (1 : Fin 4) * 384 + 1 * d.val = d.val; rw [e1]; omega
  | ⟨2, _⟩ => show win0_0.index (pt b k hk) (2 : Fin 4) * 32 + 1 * r.val = 32 * k + r.val; rw [e2]; dsimp only; omega
  | ⟨3, _⟩ => show win0_0.index (pt b k hk) (3 : Fin 4) * 128 + 1 * l.val = l.val; rw [e3]; omega

/-- The block of the projection is the whole of it. -/
theorem iblk1_apply (c : Dev nD) (t : Fin cfg0.N) (o d : Fin 384) :
    (iblk V c 1 t : Vec F S384x384 .f32) (ValueIdx.ix2 o d) = (V c main_arg3 : Vec F S384x384 .f32) (ValueIdx.ix2 o d) := by
  unfold iblk
  rw [View.read_apply]
  obtain ⟨e0, e1⟩ := idx1 t
  show V c main_arg3 _ = V c main_arg3 _
  congr 1
  funext a
  apply Fin.ext
  match a with
  | ⟨0, _⟩ => show win0_1.index t (0 : Fin 2) * 384 + 1 * o.val = o.val; rw [e0]; omega
  | ⟨1, _⟩ => show win0_1.index t (1 : Fin 2) * 384 + 1 * d.val = d.val; rw [e1]; omega

end Cert.KernelIdeal.Attn

end
-- ==== Proof.Value.Words.lean ====
/-
  The index words of the two bodies at an index: the head of a channel (its number divided by 48, rounded down), the mask
  that keeps a row to its own head, and the lane's place in its row of 128.
-/
module

public import proofs.«01_k».proof.Proof.Gen.KernelIdeal.Skeleton
public import Idealize.ShloMosaic.Lib.Pointwise

@[expose] public section

set_option maxRecDepth 16384

noncomputable section

namespace Cert.KernelIdeal.Words

open Cert.KernelIdeal Cert.KernelIdeal.Gen
open Idealize.ShloMosaic

set_option maxHeartbeats 1000000

/-- The row's head. -/
theorem pay5_apply (r c : Fin 384) : k0_pay5 (ix2 r c) = BitVec.ofNat 32 (r.val / 48) := by
  pointwise [k0_pay5]
  revert r
  decide +kernel

/-- The column's head, as the body computes it from the column's number. -/
theorem colHead (q : Fin 384) :
    Scalar.select
      (IntOp.andi
        (IntOp.cmpi CmpIPredicate.ne
          (IntOp.subi (BitVec.setWidth 32 (IntOp.cmpi CmpIPredicate.sgt (BitVec.ofNat 32 q.val) 0#32))
            (BitVec.setWidth 32 (IntOp.cmpi CmpIPredicate.slt (BitVec.ofNat 32 q.val) 0#32)))
          (Scalar.subi (Scalar.extui (Scalar.cmpi CmpIPredicate.sgt 48#32 0#32))
            (Scalar.extui (Scalar.cmpi CmpIPredicate.slt 48#32 0#32))))
        (IntOp.cmpi CmpIPredicate.ne (IntOp.remsi ArithUnit.vector (BitVec.ofNat 32 q.val) 48#32) 0#32))
      (IntOp.subi (IntOp.divsi ArithUnit.vector (BitVec.ofNat 32 q.val) 48#32) 1#32)
      (IntOp.divsi ArithUnit.vector (BitVec.ofNat 32 q.val) 48#32) = BitVec.ofNat 32 (q.val / 48) := by
  revert q
  decide +kernel

/-- Two heads' words are equal exactly when the heads are. -/
theorem sameHead (r c : Fin 384) :
    IntOp.cmpi CmpIPredicate.eq (BitVec.ofNat 32 (r.val / 48)) (BitVec.ofNat 32 (c.val / 48)) = BitVec.ofBool (decide (r.val / 48 = c.val / 48)) := by
  have hr : r.val / 48 < 8 := by have := r.isLt; omega
  have hc : c.val / 48 < 8 := by have := c.isLt; omega
  generalize r.val / 48 = a at hr
  generalize c.val / 48 = b at hc
  revert b; revert a; decide +kernel

/-- The lane's place in its row. -/
theorem lane_apply (r : Fin 384) (l : Fin 4096) : k1_pay5 (ix2 r l) = BitVec.ofNat 32 (l.val % 128) := by
  pointwise [k1_pay5]
  revert l
  decide +kernel

/-- The mask of a row's first lane. -/
theorem first_apply (r : Fin 384) (l : Fin 4096) : k1_pay7 (ix2 r l) = BitVec.ofBool (decide (l.val % 128 = 0)) := by
  unfold k1_pay7
  pointwise []
  rw [lane_apply]
  revert l
  decide +kernel

/-- The mask of a row's last lane. -/
theorem last_apply (r : Fin 384) (l : Fin 4096) : k1_pay10 k1_pay5 (ix2 r l) = BitVec.ofBool (decide (l.val % 128 = 127)) := by
  unfold k1_pay10
  pointwise []
  rw [lane_apply]
  revert l
  decide +kernel

end Cert.KernelIdeal.Words

end
-- ==== Proof.Value.Pay.lean ====
/-
  The payloads of the two bodies at an index, over the extended reals.
-/
module

public import proofs.«01_k».proof.Proof.Value.Words
public import Idealize.ShloMosaic.Lib.Pointwise

@[expose] public section

set_option maxRecDepth 16384

noncomputable section

namespace Cert.KernelIdeal.Pay

open Cert.KernelIdeal Cert.KernelIdeal.Gen
open Idealize.ShloMosaic

set_option maxHeartbeats 1000000

/-- The two named constants. -/
theorem temp_eq : (Named.named κ "temp" 0x3D5105EC#32 : Idealize.ShloMosaic.Ideal .f32) = (((Real.sqrt 384)⁻¹ : ℝ) : EReal) :=
  IdealRules.named_const.ideal_named_scalar _ _ _ _ rfl

theorem mask_eq : (Named.named κ "mask" 0xF149F2CA#32 : Idealize.ShloMosaic.Ideal .f32) = (⊥ : EReal) :=
  IdealRules.named_const.ideal_named_scalar _ _ _ _ rfl

/-- The starting value of the maximum. -/
theorem negInf : Idealize.ShloMosaic.Ideal.ofBits .f32 0xFF800000#32 = ⊥ := by
  simp [Idealize.ShloMosaic.Ideal.ofBits, Idealize.ShloMosaic.Ideal.ieee]

/-- A select on a decided truth value. -/
theorem sel_ite {α : Type} (p : Prop) [Decidable p] (a b : α) : Scalar.select (BitVec.ofBool (decide p)) a b = if p then a else b := by
  by_cases h : p <;> simp [h, Scalar.select]

/-- The accumulator starts at zero. -/
theorem gram0 (r c : Fin 384) : k0_pay1 (F := Ideal) (ix2 r c) = 0 := by
  pointwise [k0_pay1]

/-- A block adds its rows' products. -/
theorem gram_step (x : Vec Ideal S1x384x32x128 .f32) (g : Vec Ideal S384x384 .f32) (r c : Fin 384) :
    k0_pay2 x g (ix2 r c) = g (ix2 r c) + ∑ k : Fin 4096, x (ix4 0 r ⟨k.val / 128, by omega⟩ ⟨k.val % 128, by omega⟩) * x (ix4 0 c ⟨k.val / 128, by omega⟩ ⟨k.val % 128, by omega⟩) := by
  pointwise [k0_pay2]

/-- The scaled products. -/
theorem scaled (g : Vec Ideal S384x384 .f32) (r c : Fin 384) : k0_pay4 g (ix2 r c) = g (ix2 r c) * (((Real.sqrt 384)⁻¹ : ℝ) : EReal) := by
  pointwise [k0_pay4]
  rw [temp_eq]

/-- A score inside the row's head, minus infinity outside. -/
def masked (s : Vec Ideal S384x384 .f32) (r c : Fin 384) : EReal := if r.val / 48 = c.val / 48 then s (ix2 r c) else ⊥

/-- The projection applied to the softmax. -/
theorem attn (s w : Vec Ideal S384x384 .f32) (o d : Fin 384) :
    k0_pay3 s k0_pay5 (iota .tc S384x384 32 [1] iota_S384x384_d1_w32) 48#32 k0_pay6 k0_pay7 w (ix3 0 o d)
      = ∑ c : Fin 384, w (ix2 o c) * Ideal.div (Idealize.ShloMosaic.Ideal.exp (masked s c d - Finset.univ.fold max ⊥ fun k => masked s c k))
          (∑ k' : Fin 384, Idealize.ShloMosaic.Ideal.exp (masked s c k' - Finset.univ.fold max ⊥ fun k => masked s c k)) := by
  unfold k0_pay3 masked
  pointwise [k0_pay6, k0_pay7]
  simp only [Words.pay5_apply, Words.colHead, Words.sameHead, sel_ite, mask_eq, negInf]

/-- The projected rows of the block. -/
theorem xv_mid (w : Vec Ideal S384x384 .f32) (x : Vec Ideal S1x384x32x128 .f32) (d : Fin 384) (l : Fin 4096) :
    k1_pay2 w x (ix2 d l) = ∑ e : Fin 384, w (ix2 d e) * x (ix4 0 e ⟨l.val / 128, by omega⟩ ⟨l.val % 128, by omega⟩) := by
  pointwise [k1_pay2]

/-- The projected row above, zero at the first block. -/
theorem xv_top (i : grid1.Coords) (w : Vec Ideal S384x384 .f32) (x : Vec Ideal S1x384x1x128 .f32) (d : Fin 384) (l : Fin 128) :
    k1_pay3 i w x (ix2 d l) = if (i 2).val = 0 then 0 else ∑ e : Fin 384, w (ix2 d e) * x (ix4 0 e 0 l) := by
  pointwise [k1_pay3]
  have e : Scalar.cmpi CmpIPredicate.eq (BitVec.ofNat 32 (i 2).val) 0#32 = BitVec.ofBool (decide ((i 2).val = 0)) := by
    have hi : (i 2).val < 4 := (i 2).isLt
    generalize (i 2).val = n at hi
    revert hi; revert n; decide +kernel
  rw [e, sel_ite]

/-- The projected row below, zero at the last block. -/
theorem xv_bot (i : grid1.Coords) (w : Vec Ideal S384x384 .f32) (x : Vec Ideal S1x384x1x128 .f32) (d : Fin 384) (l : Fin 128) :
    k1_pay4 i w x (ix2 d l) = if (i 2).val = 3 then 0 else ∑ e : Fin 384, w (ix2 d e) * x (ix4 0 e 0 l) := by
  pointwise [k1_pay4]
  have e : Scalar.cmpi CmpIPredicate.eq (BitVec.ofNat 32 (i 2).val) 3#32 = BitVec.ofBool (decide ((i 2).val = 3)) := by
    have hi : (i 2).val < 4 := (i 2).isLt
    generalize (i 2).val = n at hi
    revert hi; revert n; decide +kernel
  rw [e, sel_ite]

/-- Three taps over three windows. -/
theorem mix3 (w1 w2 w3 : Vec Ideal S384x1 .f32) (s1 s2 s3 : Vec Ideal S384x4096 .f32) (d : Fin 384) (l : Fin 4096) :
    k1_pay6 w1 s1 w2 s2 w3 s3 (ix2 d l) = w1 (ix2 d 0) * s1 (ix2 d l) + w2 (ix2 d 0) * s2 (ix2 d l) + w3 (ix2 d 0) * s3 (ix2 d l) := by
  pointwise [k1_pay6]

/-- Two taps over two windows. -/
theorem mix2 (w1 w2 : Vec Ideal S384x1 .f32) (s1 s2 : Vec Ideal S384x4096 .f32) (d : Fin 384) (l : Fin 4096) :
    k1_pay11 w1 s1 w2 s2 (ix2 d l) = w1 (ix2 d 0) * s1 (ix2 d l) + w2 (ix2 d 0) * s2 (ix2 d l) := by
  pointwise [k1_pay11]

/-- The left column of the stencil added: rotated by one lane, zero at a row's first lane. -/
theorem left (v : Vec Ideal S384x4096 .f32) (w1 w2 w3 : Vec Ideal S384x1 .f32) (s1 s2 s3 : Vec Ideal S384x4096 .f32) (d : Fin 384) (l : Fin 4096) :
    k1_pay9 v k1_pay7 (k1_pay8 w1) s1 w2 s2 w3 s3 (ix2 d l)
      = v (ix2 d l) + if h : l.val % 128 = 0 then 0
          else (w1 (ix2 d 0) * s1 (ix2 d ⟨l.val - 1, by omega⟩) + w2 (ix2 d 0) * s2 (ix2 d ⟨l.val - 1, by omega⟩) + w3 (ix2 d 0) * s3 (ix2 d ⟨l.val - 1, by omega⟩)) := by
  unfold k1_pay9 k1_pay8
  pointwise []
  rw [Words.first_apply, sel_ite]
  refine congrArg (v (ix2 d l) + ·) ?_
  by_cases h : l.val % 128 = 0
  · rw [if_pos h, dif_pos h]
  · rw [if_neg h, dif_neg h, dif_neg (by omega)]

/-- The right column added, rotated the other way, and the mixing matrix applied. -/
theorem right (v : Vec Ideal S384x4096 .f32) (u : Vec Ideal S384x4096 .f32) (w : Vec Ideal S384x1 .f32) (s : Vec Ideal S384x4096 .f32)
    (m : Vec Ideal S1x384x384 .f32) (o : Fin 384) (r : Fin 32) (l : Fin 128) :
    k1_pay1 v (k1_pay10 k1_pay5) u (k1_pay12 w) s m (ix4 0 o r l)
      = ∑ d : Fin 384, m (ix3 0 o d) * (v (ix2 d ⟨r.val * 128 + l.val, by omega⟩) + if h : l.val = 127 then 0
          else (u (ix2 d ⟨r.val * 128 + l.val + 1, by omega⟩) + w (ix2 d 0) * s (ix2 d ⟨r.val * 128 + l.val + 1, by omega⟩))) := by
  unfold k1_pay1 k1_pay12
  pointwise []
  refine Finset.sum_congr rfl fun d _ => congrArg (m (ix3 0 o d) * ·) (congrArg (v (ix2 d ⟨r.val * 128 + l.val, by omega⟩) + ·) ?_)
  rw [Words.last_apply, sel_ite]
  by_cases h : l.val = 127
  · rw [if_pos (by show (r.val * 128 + l.val) % 128 = 127; omega), dif_pos h]
  · rw [if_neg (by show ¬ (r.val * 128 + l.val) % 128 = 127; omega), dif_neg h, dif_pos (by omega)]
    have e : (⟨1 + (r.val * 128 + l.val), by omega⟩ : Fin 4096) = ⟨r.val * 128 + l.val + 1, by omega⟩ := Fin.ext (by show 1 + (r.val * 128 + l.val) = r.val * 128 + l.val + 1; omega)
    rw [e]

end Cert.KernelIdeal.Pay

end
-- ==== Proof.Value.Real.lean ====
/-
  Finite sums and the softmax over real numbers inside the extended reals: what the two programs share.
-/
module

public import Idealize.ShloMosaic.PureOps.Ideal
public import Idealize.ShloMosaic.Lib.Pointwise

@[expose] public section

set_option maxRecDepth 16384

noncomputable section

namespace Cert.Spec

open Idealize.ShloMosaic

/-- A finite sum of reals is the same sum taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals. -/
theorem sum_mul_coe {n : Nat} (f g : Fin n → EReal) (F G : Fin n → ℝ) (hf : ∀ i, f i = F i) (hg : ∀ i, g i = G i) :
    ∑ i, f i * g i = ((∑ i, F i * G i : ℝ) : EReal) := by
  rw [coe_sum]
  exact Finset.sum_congr rfl fun i _ => by rw [hf, hg, EReal.coe_mul]

/-- The maximum of values that are real or minus infinity, one of them real, is real. -/
theorem fold_max_real {n : Nat} (p : Fin n → Prop) [DecidablePred p] (g : Fin n → ℝ) (d : Fin n) (hd : p d) :
    ∃ M : ℝ, (Finset.univ.fold max ⊥ fun k => if p k then (g k : EReal) else ⊥) = M := by
  have hs : (Finset.univ.fold max ⊥ fun k => if p k then (g k : EReal) else ⊥) = Finset.univ.sup fun k => if p k then (g k : EReal) else ⊥ := rfl
  rw [hs]
  refine ⟨_, (EReal.coe_toReal ?_ ?_).symm⟩
  · refine ne_of_lt ((Finset.sup_lt_iff bot_lt_top).2 fun k _ => ?_)
    split
    · exact EReal.coe_lt_top _
    · exact bot_lt_top
  · refine ne_of_gt (lt_of_lt_of_le (EReal.bot_lt_coe (g d)) ?_)
    have := Finset.le_sup (f := fun k => if p k then (g k : EReal) else ⊥) (Finset.mem_univ d)
    rwa [if_pos hd] at this

/-- The softmax of a row in which the entries outside `p` stand at minus infinity: the exponentials' share inside `p`,
    zero outside. Subtracting the maximum first changes nothing. -/
theorem softmax_real {n : Nat} (p : Fin n → Prop) [DecidablePred p] (g : Fin n → ℝ) (d e : Fin n) (he : p e) (f : Fin n → EReal)
    (hf : ∀ k, f k = if p k then (g k : EReal) else ⊥) :
    Ideal.div (Ideal.exp (f d - Finset.univ.fold max ⊥ fun k => f k)) (∑ k, Ideal.exp (f k - Finset.univ.fold max ⊥ fun k => f k))
      = ((if p d then Real.exp (g d) / ∑ k, (if p k then Real.exp (g k) else 0) else 0 : ℝ) : EReal) := by
  obtain rfl : f = fun k => if p k then (g k : EReal) else ⊥ := funext hf
  obtain ⟨M, hM⟩ := fold_max_real p g e he
  rw [hM]
  have hterm : ∀ k, Ideal.exp ((if p k then (g k : EReal) else ⊥) - (M : EReal)) = ((if p k then Real.exp (g k) / Real.exp M else 0 : ℝ) : EReal) := by
    intro k
    by_cases hk : p k
    · rw [if_pos hk, if_pos hk, ← EReal.coe_sub, Ideal.exp_coe, Real.exp_sub]
    · rw [if_neg hk, if_neg hk, EReal.bot_sub, Ideal.exp_bot, EReal.coe_zero]
  simp only [hterm]
  rw [← coe_sum]
  have hsum : (∑ k, if p k then Real.exp (g k) / Real.exp M else 0) = (∑ k, if p k then Real.exp (g k) else 0) / Real.exp M := by
    rw [Finset.sum_div]
    exact Finset.sum_congr rfl fun k _ => by split <;> simp
  have hpos : 0 < ∑ k, if p k then Real.exp (g k) else 0 :=
    Finset.sum_pos' (fun k _ => by split <;> first | exact (Real.exp_pos _).le | exact le_rfl) ⟨e, Finset.mem_univ e, by rw [if_pos he]; exact Real.exp_pos _⟩
  have hM0 := (Real.exp_pos M).ne'
  rw [hsum, Ideal.div_coe (div_ne_zero hpos.ne' hM0), ← EReal.coe_mul]
  congr 1
  by_cases hd : p d
  · rw [if_pos hd, if_pos hd]
    field_simp
  · rw [if_neg hd, if_neg hd, zero_mul]

/-- The same with every entry kept. -/
theorem softmax_all {n : Nat} (g : Fin n → ℝ) (d : Fin n) (f : Fin n → EReal) (hf : ∀ k, f k = (g k : EReal)) :
    Ideal.div (Ideal.exp (f d - Finset.univ.fold max ⊥ fun k => f k)) (∑ k, Ideal.exp (f k - Finset.univ.fold max ⊥ fun k => f k))
      = ((Real.exp (g d) / ∑ k, Real.exp (g k) : ℝ) : EReal) := by
  have := softmax_real (fun _ => True) g d d trivial f (fun k => by rw [if_pos trivial, hf])
  simpa using this

/-- A sum over the 384 channels kept to one head is the sum over that head's 48. -/
theorem head_sum (h : Fin 8) (F : Fin 384 → ℝ) :
    (∑ k : Fin 384, if h.val = k.val / 48 then F k else 0) = ∑ j : Fin 48, F ⟨h.val * 48 + j.val, by omega⟩ := by
  have e : (∑ k : Fin 384, if h.val = k.val / 48 then F k else 0)
      = ∑ q : Fin 8 × Fin 48, if h = q.1 then F ⟨q.1.val * 48 + q.2.val, by omega⟩ else 0 := by
    refine (Fintype.sum_equiv (finProdFinEquiv (m := 8) (n := 48)) _ _ fun q => ?_).symm
    obtain ⟨a, b⟩ := q
    have h1 : ((finProdFinEquiv (a, b) : Fin (8 * 48)).val) = b.val + 48 * a.val := rfl
    have h2 : (b.val + 48 * a.val) / 48 = a.val := by omega
    have hF : (⟨a.val * 48 + b.val, by omega⟩ : Fin 384) = (finProdFinEquiv (a, b) : Fin (8 * 48)) := Fin.ext (by rw [h1]; show a.val * 48 + b.val = _; omega)
    dsimp only
    rw [hF, h1, h2]
    simp only [Fin.ext_iff]
  rw [e, Fintype.sum_prod_type]
  rw [Finset.sum_eq_single h (fun b _ hb => by simp [Ne.symm hb]) (fun hh => absurd (Finset.mem_univ h) hh)]
  simp

/-- A sum over the 16384 positions of a plane is the sum over its four blocks of 4096. -/
theorem plane_sum (F : Fin 16384 → ℝ) :
    ∑ k : Fin 16384, F k = (∑ k : Fin 4096, F ⟨k.val, by omega⟩) + (∑ k : Fin 4096, F ⟨4096 + k.val, by omega⟩)
      + (∑ k : Fin 4096, F ⟨8192 + k.val, by omega⟩) + ∑ k : Fin 4096, F ⟨12288 + k.val, by omega⟩ := by
  have e : ∑ k : Fin 16384, F k = ∑ q : Fin 4 × Fin 4096, F ⟨q.1.val * 4096 + q.2.val, by omega⟩ := by
    refine (Fintype.sum_equiv (finProdFinEquiv (m := 4) (n := 4096)) _ _ fun q => ?_).symm
    obtain ⟨a, b⟩ := q
    refine congrArg F (Fin.ext ?_)
    show a.val * 4096 + b.val = b.val + 4096 * a.val
    omega
  rw [e, Fintype.sum_prod_type, Fin.sum_univ_four]
  congr 1

end Cert.Spec

end
-- ==== Proof.Value.Spec.lean ====
/-
  The problem's mathematics over real arrays: the projection, the padded depthwise convolution, the scores and the attention
  of the channels of a head, and the result.
-/
module

public import proofs.«01_k».proof.Proof.Value.Real

@[expose] public section

set_option maxRecDepth 16384

noncomputable section

namespace Cert.Spec

open Idealize.ShloMosaic

/-- The arguments as real arrays. -/
structure Args where
  X : Fin 8 → Fin 384 → Fin 128 → Fin 128 → ℝ
  Wqv : Fin 384 → Fin 384 → ℝ
  Wdw : Fin 384 → Fin 3 → Fin 3 → ℝ
  Wp : Fin 384 → Fin 384 → ℝ

variable (A : Args)

/-- The input projected by the first 1×1 convolution. -/
def xv (b : Fin 8) (d : Fin 384) (i j : Fin 128) : ℝ := ∑ e : Fin 384, A.Wqv d e * A.X b e i j

/-- The projected input with a row of zeros above and below: row `i` of it is row `i - 1` of the plane. -/
def rowPad (b : Fin 8) (d : Fin 384) (i : ℕ) (j : Fin 128) : ℝ :=
  if h : 1 ≤ i ∧ i ≤ 128 then xv A b d ⟨i - 1, by omega⟩ j else 0

/-- The projected input with a frame of zeros around the plane. -/
def pad (b : Fin 8) (d : Fin 384) (i j : ℕ) : ℝ :=
  if h : 1 ≤ j ∧ j ≤ 128 then rowPad A b d i ⟨j - 1, by omega⟩ else 0

/-- The depthwise 3×3 convolution. -/
def v (b : Fin 8) (d : Fin 384) (i j : Fin 128) : ℝ :=
  A.Wdw d 0 0 * pad A b d i.val j.val + A.Wdw d 0 1 * pad A b d i.val (1 + j.val) + A.Wdw d 0 2 * pad A b d i.val (2 + j.val)
    + A.Wdw d 1 0 * pad A b d (1 + i.val) j.val + A.Wdw d 1 1 * pad A b d (1 + i.val) (1 + j.val) + A.Wdw d 1 2 * pad A b d (1 + i.val) (2 + j.val)
    + A.Wdw d 2 0 * pad A b d (2 + i.val) j.val + A.Wdw d 2 1 * pad A b d (2 + i.val) (1 + j.val) + A.Wdw d 2 2 * pad A b d (2 + i.val) (2 + j.val)

/-- The scaled score of two channels: their planes' product. -/
def score (b : Fin 8) (c d : Fin 384) : ℝ :=
  (∑ k : Fin 16384, A.X b c ⟨k.val / 128, by omega⟩ ⟨k.val % 128, by omega⟩ * A.X b d ⟨k.val / 128, by omega⟩ ⟨k.val % 128, by omega⟩) * (Real.sqrt 384)⁻¹

/-- The row and the column of tap `k` of nine. -/
def tapRow (k : Fin 9) : Fin 3 := ⟨k.val / 3, by omega⟩
def tapCol (k : Fin 9) : Fin 3 := ⟨k.val % 3, by omega⟩

/-- Channel `j` of the head of channel `c`. -/
abbrev peer (c : Fin 384) (j : Fin 48) : Fin 384 := ⟨c.val / 48 * 48 + j.val, by omega⟩

/-- The attention of a channel to channel `j` of its head: the softmax of the scores. -/
def att (b : Fin 8) (c : Fin 384) (j : Fin 48) : ℝ :=
  Real.exp (score A b c (peer c j)) / ∑ k : Fin 48, Real.exp (score A b c (peer c k))

/-- The attention as a matrix over all channels: zero between heads. -/
def attM (b : Fin 8) (c d : Fin 384) : ℝ :=
  if c.val / 48 = d.val / 48 then Real.exp (score A b c d) / ∑ k : Fin 384, (if c.val / 48 = k.val / 48 then Real.exp (score A b c k) else 0) else 0

/-- The result. -/
def out (b : Fin 8) (o : Fin 384) (i j : Fin 128) : ℝ :=
  ∑ c : Fin 384, A.Wp o c * ∑ k : Fin 48, att A b c k * v A b (peer c k) i j

/-- There are eight heads. -/
theorem head_lt (c : Fin 384) : c.val / 48 < 8 := by have := c.isLt; omega

/-- The matrix applied to the values is the attention applied to the head's. -/
theorem attM_mul (b : Fin 8) (c : Fin 384) (u : Fin 384 → ℝ) : ∑ d : Fin 384, attM A b c d * u d = ∑ k : Fin 48, att A b c k * u (peer c k) := by
  have h := head_sum ⟨c.val / 48, head_lt c⟩ (fun d => Real.exp (score A b c d) / (∑ k : Fin 384, (if c.val / 48 = k.val / 48 then Real.exp (score A b c k) else 0)) * u d)
  have hz := head_sum ⟨c.val / 48, head_lt c⟩ (fun d => Real.exp (score A b c d))
  dsimp only at h hz
  rw [hz] at h
  unfold attM att
  rw [← h]
  refine Finset.sum_congr rfl fun d _ => ?_
  rw [hz]
  by_cases hd : c.val / 48 = d.val / 48
  · rw [if_pos hd, if_pos hd]
  · rw [if_neg hd, if_neg hd, zero_mul]

/-- Projecting the attention first and applying it to the values second gives the same result. -/
theorem out_eq (b : Fin 8) (o : Fin 384) (i j : Fin 128) :
    ∑ d : Fin 384, (∑ c : Fin 384, A.Wp o c * attM A b c d) * v A b d i j = out A b o i j := by
  unfold out
  simp only [← attM_mul A b _ fun d => v A b d i j, Finset.sum_mul, Finset.mul_sum]
  rw [Finset.sum_comm]
  exact Finset.sum_congr rfl fun c _ => Finset.sum_congr rfl fun d _ => mul_assoc _ _ _

/-- The padded plane inside, at its left and at its right. -/
theorem pad_inner (b : Fin 8) (d : Fin 384) (i : ℕ) (j : Fin 128) : pad A b d i (1 + j.val) = rowPad A b d i j := by
  unfold pad
  rw [dif_pos ⟨by omega, by omega⟩]
  exact congrArg _ (Fin.ext (by show 1 + j.val - 1 = j.val; omega))

theorem pad_left (b : Fin 8) (d : Fin 384) (i : ℕ) (j : Fin 128) : pad A b d i j.val = if h : j.val = 0 then 0 else rowPad A b d i ⟨j.val - 1, by omega⟩ := by
  unfold pad
  by_cases h : j.val = 0
  · rw [dif_pos h, dif_neg (by omega)]
  · rw [dif_neg h, dif_pos (by omega)]

theorem pad_right (b : Fin 8) (d : Fin 384) (i : ℕ) (j : Fin 128) : pad A b d i (2 + j.val) = if h : j.val = 127 then 0 else rowPad A b d i ⟨j.val + 1, by omega⟩ := by
  unfold pad
  by_cases h : j.val = 127
  · rw [dif_pos h, dif_neg (by omega)]
  · rw [dif_neg h, dif_pos (by omega)]
    exact congrArg _ (Fin.ext (by show 2 + j.val - 1 = j.val + 1; omega))

/-- The convolution by columns: the middle column of taps, then the left one where there is a column to the left, then the
    right one where there is a column to the right. -/
theorem v_cols (b : Fin 8) (d : Fin 384) (i j : Fin 128) :
    v A b d i j = (A.Wdw d 0 1 * rowPad A b d i.val j + A.Wdw d 1 1 * rowPad A b d (1 + i.val) j + A.Wdw d 2 1 * rowPad A b d (2 + i.val) j)
      + (if h : j.val = 0 then 0 else A.Wdw d 0 0 * rowPad A b d i.val ⟨j.val - 1, by omega⟩ + A.Wdw d 1 0 * rowPad A b d (1 + i.val) ⟨j.val - 1, by omega⟩
          + A.Wdw d 2 0 * rowPad A b d (2 + i.val) ⟨j.val - 1, by omega⟩)
      + (if h : j.val = 127 then 0 else A.Wdw d 0 2 * rowPad A b d i.val ⟨j.val + 1, by omega⟩ + A.Wdw d 1 2 * rowPad A b d (1 + i.val) ⟨j.val + 1, by omega⟩
          + A.Wdw d 2 2 * rowPad A b d (2 + i.val) ⟨j.val + 1, by omega⟩) := by
  unfold v
  simp only [pad_inner, pad_left, pad_right]
  split <;> split <;> ring

end Cert.Spec

end
-- ==== Proof.Value.AttnReal.lean ====
/-
  The first call's output array over real arguments: the projection applied to the attention of every head.
-/
module

public import proofs.«01_k».proof.Proof.KernelIdeal.AttnValue
public import proofs.«01_k».proof.Proof.Value.Pay
public import proofs.«01_k».proof.Proof.Value.Spec
public import Idealize.ShloMosaic.Lib.Pointwise.IndexBridge

@[expose] public section

set_option maxRecDepth 16384

noncomputable section

namespace Cert.KernelIdeal.Attn

open Cert.KernelIdeal Cert.KernelIdeal.Gen
open Idealize.ShloMosaic Idealize.ShloMosaic.TcCoe Idealize.SL.Sem

variable (V : (c : Dev nD) → (b : Ref sig .tc) → Buf (Elt Idealize.ShloMosaic.Ideal) ((c : Thread nD τ).loc b)) (c : Dev nD) (A : Cert.Spec.Args)

/-- The product of two channels' planes over row block `t`. -/
def part (b : Fin 8) (r d : Fin 384) (t : ℕ) (ht : t < 4) : ℝ :=
  ∑ k : Fin 4096, A.X b r ⟨(4096 * t + k.val) / 128, by omega⟩ ⟨(4096 * t + k.val) % 128, by omega⟩
    * A.X b d ⟨(4096 * t + k.val) / 128, by omega⟩ ⟨(4096 * t + k.val) % 128, by omega⟩

variable (hX : ∀ b e i j, (V c main_arg0 : Vec Idealize.ShloMosaic.Ideal S8x384x128x128 .f32) (ix4 b e i j) = ((A.X b e i j : ℝ) : EReal))
variable (hP : ∀ o d, (V c main_arg3 : Vec Idealize.ShloMosaic.Ideal S384x384 .f32) (ix2 o d) = ((A.Wp o d : ℝ) : EReal))

include hX in
/-- An input block flattened, as reals. -/
theorem blk_real (b : Fin 8) (t : ℕ) (ht : t < 4) (r : Fin 384) (k : Fin 4096) :
    (iblk V c 0 (pt b t ht) : Vec Idealize.ShloMosaic.Ideal S1x384x32x128 .f32) (ix4 0 r ⟨k.val / 128, by omega⟩ ⟨k.val % 128, by omega⟩)
      = ((A.X b r ⟨(4096 * t + k.val) / 128, by omega⟩ ⟨(4096 * t + k.val) % 128, by omega⟩ : ℝ) : EReal) := by
  refine (iblk0_apply V c b t ht r ⟨k.val / 128, by omega⟩ ⟨k.val % 128, by omega⟩).trans ?_
  refine Eq.trans ?_ (hX b r ⟨(4096 * t + k.val) / 128, by omega⟩ ⟨(4096 * t + k.val) % 128, by omega⟩)
  refine congrArg (V c main_arg0 : Vec Idealize.ShloMosaic.Ideal S8x384x128x128 .f32) ?_
  rw [← ix4_eq_valueIdx]
  congr 1
  · exact Fin.ext (by show 32 * t + k.val / 128 = (4096 * t + k.val) / 128; omega)
  · exact Fin.ext (by show k.val % 128 = (4096 * t + k.val) % 128; omega)

include hX in
/-- One block's products added to the accumulator. -/
theorem step_real (b : Fin 8) (t : ℕ) (ht : t < 4) (g : Vec Idealize.ShloMosaic.Ideal S384x384 .f32) (r d : Fin 384) (G : ℝ) (hg : g (ix2 r d) = (G : EReal)) :
    k0_pay2 (iblk V c 0 (pt b t ht)) g (ix2 r d) = ((G + part A b r d t ht : ℝ) : EReal) := by
  rw [Pay.gram_step, hg, EReal.coe_add]
  refine congrArg ((G : EReal) + ·) ?_
  exact Cert.Spec.sum_mul_coe _ _ _ _ (fun k => blk_real V c A hX b t ht r k) (fun k => blk_real V c A hX b t ht d k)

include hX in
/-- The completed product, scaled, is the score. -/
theorem score_real (b : Fin 8) (r d : Fin 384) : k0_pay4 (acc4 V c b) (ix2 r d) = ((Cert.Spec.score A b r d : ℝ) : EReal) := by
  rw [Pay.scaled]
  have h : acc4 V c b (ix2 r d) = ((0 + part A b r d 0 k0 + part A b r d 1 k1 + part A b r d 2 k2 + part A b r d 3 k3 : ℝ) : EReal) :=
    step_real V c A hX b 3 k3 _ r d _ (step_real V c A hX b 2 k2 _ r d _ (step_real V c A hX b 1 k1 _ r d _ (step_real V c A hX b 0 k0 _ r d 0
      (by rw [Pay.gram0, EReal.coe_zero]))))
  rw [h, ← EReal.coe_mul]
  refine congrArg (fun z : ℝ => (z : EReal)) ?_
  unfold Cert.Spec.score
  rw [Cert.Spec.plane_sum]
  unfold part
  rw [zero_add]
  simp only [Nat.mul_zero, Nat.zero_add, Nat.mul_one, Nat.reduceMul]

include hX hP in
/-- The first call's output, entry by entry. -/
theorem final_real (b : Fin 8) (o d : Fin 384) :
    (final V c : Vec Idealize.ShloMosaic.Ideal S8x384x384 .f32) (ix3 b o d) = ((∑ e : Fin 384, A.Wp o e * Cert.Spec.attM A b e d : ℝ) : EReal) := by
  show outVal (acc4 V c b) (iblk V c 1 (pt b 3 k3)) (ValueIdx.ix3 0 o d) = _
  rw [← ix3_eq_valueIdx]
  unfold outVal
  rw [Pay.attn]
  refine Cert.Spec.sum_mul_coe _ _ _ _ (fun e => ?_) (fun e => ?_)
  · exact (iblk1_apply V c (pt b 3 k3) o e).trans (hP o e)
  · exact Cert.Spec.softmax_real (fun k => e.val / 48 = k.val / 48) (fun k => Cert.Spec.score A b e k) d e rfl _ fun k => by
      unfold Pay.masked
      rw [score_real V c A hX]

end Cert.KernelIdeal.Attn

end
-- ==== Proof.KernelIdeal.ConvValue.lean ====
/-
  The second call's stores read back as values: the scratch holds one row, the block's 32 rows and one row again of the
  projected input, side by side; the output block is computed from it.
-/
module

public import proofs.«01_k».proof.Proof.KernelIdeal.ConvFrame
public import Idealize.ShloMosaic.Lib.Pipeline.Value
public import Idealize.ShloMosaic.Lib.Pointwise

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F] [Named F]

/-- Offsets of zeros, in two, three and four dimensions. -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The scratch as the body fills it: the row above, the block's rows, the row below. -/
def glue (top : Vec F S384x128 .f32) (mid : Vec F S384x4096 .f32) (bot : Vec F S384x128 .f32) : Vec F S384x4352 .f32 := fun j =>
  have h1 : (j 1).val < 4352 := (j 1).isLt
  if h : (j 1).val < 128 then top (ix2 (j 0) ⟨(j 1).val, h⟩)
  else if h' : (j 1).val < 4224 then mid (ix2 (j 0) ⟨(j 1).val - 128, by omega⟩)
  else bot (ix2 (j 0) ⟨(j 1).val - 4224, by omega⟩)

set_option maxHeartbeats 1000000 in
/-- The three stores leave exactly that. -/
theorem canon_glue (top : Vec F S384x128 .f32) (mid : Vec F S384x4096 .f32) (bot : Vec F S384x128 .f32) (h1 h2 h3) :
    View.canon (Val := Elt F) (s := S384x4352) (e := .f32) [⟨Rect.unit (s := S384x4352) ![0, 4224] ![384, 128] h1, bot⟩,
      ⟨Rect.unit (s := S384x4352) ![0, 0] ![384, 128] h2, top⟩, ⟨Rect.unit (s := S384x4352) ![0, 128] ![384, 4096] h3, mid⟩] = glue top mid bot := by
  funext y
  have y1 : (y 1).val < 4352 := (y 1).isLt
  have y0 : (y 0).val < 384 := (y 0).isLt
  refine View.canon_apply_of_pieces (glue top mid bot) _ ?_ y ?_
  · intro p hp x
    simp only [List.mem_cons, List.not_mem_nil, or_false] at hp
    rcases hp with rfl | rfl | rfl
    · have x1 : (x 1).val < 128 := (x 1).isLt
      have e1 : ((Rect.unit (s := S384x4352) ![0, 4224] ![384, 128] h1).emb x 1).val = 4224 + 1 * (x 1).val := rfl
      have e0 : ((Rect.unit (s := S384x4352) ![0, 4224] ![384, 128] h1).emb x 0).val = 0 + 1 * (x 0).val := rfl
      show bot x = _
      unfold glue
      rw [dif_neg (by rw [e1]; omega), dif_neg (by rw [e1]; omega)]
      congr 1
      funext a
      apply Fin.ext
      match a with
      | ⟨0, _⟩ => show (x 0).val = ((Rect.unit (s := S384x4352) ![0, 4224] ![384, 128] h1).emb x 0).val; rw [e0]; omega
      | ⟨1, _⟩ => show (x 1).val = ((Rect.unit (s := S384x4352) ![0, 4224] ![384, 128] h1).emb x 1).val - 4224; rw [e1]; omega
    · have x1 : (x 1).val < 128 := (x 1).isLt
      have e1 : ((Rect.unit (s := S384x4352) ![0, 0] ![384, 128] h2).emb x 1).val = 0 + 1 * (x 1).val := rfl
      have e0 : ((Rect.unit (s := S384x4352) ![0, 0] ![384, 128] h2).emb x 0).val = 0 + 1 * (x 0).val := rfl
      show top x = _
      unfold glue
      rw [dif_pos (by rw [e1]; omega)]
      congr 1
      funext a
      apply Fin.ext
      match a with
      | ⟨0, _⟩ => show (x 0).val = ((Rect.unit (s := S384x4352) ![0, 0] ![384, 128] h2).emb x 0).val; rw [e0]; omega
      | ⟨1, _⟩ => show (x 1).val = ((Rect.unit (s := S384x4352) ![0, 0] ![384, 128] h2).emb x 1).val; rw [e1]; omega
    · have x1 : (x 1).val < 4096 := (x 1).isLt
      have e1 : ((Rect.unit (s := S384x4352) ![0, 128] ![384, 4096] h3).emb x 1).val = 128 + 1 * (x 1).val := rfl
      have e0 : ((Rect.unit (s := S384x4352) ![0, 128] ![384, 4096] h3).emb x 0).val = 0 + 1 * (x 0).val := rfl
      show mid x = _
      unfold glue
      rw [dif_neg (by rw [e1]; omega), dif_pos (by rw [e1]; omega)]
      congr 1
      funext a
      apply Fin.ext
      match a with
      | ⟨0, _⟩ => show (x 0).val = ((Rect.unit (s := S384x4352) ![0, 128] ![384, 4096] h3).emb x 0).val; rw [e0]; omega
      | ⟨1, _⟩ => show (x 1).val = ((Rect.unit (s := S384x4352) ![0, 128] ![384, 4096] h3).emb x 1).val - 128; rw [e1]; omega
  · by_cases c1 : (y 1).val < 128
    · refine ⟨_, List.mem_cons_of_mem _ List.mem_cons_self, (show y ∈ (Rect.unit (s := S384x4352) ![0, 0] ![384, 128] h2).set from (Rect.mem_set_unit ..).mpr fun a => ?_)⟩
      match a with
      | ⟨0, _⟩ => show 0 ≤ (y 0).val ∧ (y 0).val < 0 + 384; omega
      | ⟨1, _⟩ => show 0 ≤ (y 1).val ∧ (y 1).val < 0 + 128; omega
    · by_cases c2 : (y 1).val < 4224
      · refine ⟨_, List.mem_cons_of_mem _ (List.mem_cons_of_mem _ List.mem_cons_self), (show y ∈ (Rect.unit (s := S384x4352) ![0, 128] ![384, 4096] h3).set from (Rect.mem_set_unit ..).mpr fun a => ?_)⟩
        match a with
        | ⟨0, _⟩ => show 0 ≤ (y 0).val ∧ (y 0).val < 0 + 384; omega
        | ⟨1, _⟩ => show 128 ≤ (y 1).val ∧ (y 1).val < 128 + 4096; omega
      · refine ⟨_, List.mem_cons_self, (show y ∈ (Rect.unit (s := S384x4352) ![0, 4224] ![384, 128] h1).set from (Rect.mem_set_unit ..).mpr fun a => ?_)⟩
        match a with
        | ⟨0, _⟩ => show 0 ≤ (y 0).val ∧ (y 0).val < 0 + 384; omega
        | ⟨1, _⟩ => show 4224 ≤ (y 1).val ∧ (y 1).val < 4224 + 128; omega

/-- A load of 32 rows of the scratch, `o` lanes in. -/
def win (g : Vec F S384x4352 .f32) (o : ℕ) (ho : o ≤ 256) : Vec F S384x4096 .f32 := fun j =>
  g (ix2 (j 0) ⟨o + (j 1).val, by have h : (j 1).val < 4096 := (j 1).isLt; omega⟩)
/-- A column of the nine filter taps. -/
def col (w : Vec F S384x9 .f32) (k : Fin 9) : Vec F S384x1 .f32 := fun j => w (ix2 (j 0) k)
/-- One row of a halo block. -/
def row (x : Vec F S1x384x8x128 .f32) (k : Fin 8) : Vec F S1x384x1x128 .f32 := fun j => x (ix4 0 (j 1) k (j 3))

/-- A load of 4096 lanes of the scratch is a window of it. -/
theorem win_eq (g : Vec F S384x4352 .f32) (o : ℕ) (ho : o ≤ 256) (h : ∀ a, (![0, o] : Fin S384x4352.rank → ℕ) a + (![384, 4096] : Fin S384x4352.rank → ℕ) a ≤ S384x4352.size a) :
    (fun j => g ((Rect.unit (s := S384x4352) ![0, o] ![384, 4096] h).toLoadRect.idx j)) = win g o ho := by
  funext j
  unfold win
  refine congrArg g (funext fun a => Fin.ext ?_)
  match a with
  | ⟨0, _⟩ => show 0 + 1 * (j 0).val = (j 0).val; omega
  | ⟨1, _⟩ => show o + 1 * (j 1).val = o + (j 1).val; omega

/-- A load of one tap column. -/
theorem col_eq (w : Vec F S384x9 .f32) (k : ℕ) (hk : k < 9) (h) :
    View.ld w (Rect.unit (s := S384x9) ![0, k] ![384, 1] h) = col w ⟨k, hk⟩ := by
  funext j
  have hj : (j 1).val < 1 := (j 1).isLt
  unfold col View.ld
  congr 1
  funext a
  apply Fin.ext
  match a with
  | ⟨0, _⟩ => show 0 + 1 * (j 0).val = (j 0).val; omega
  | ⟨1, _⟩ => show k + 1 * (j 1).val = k; omega

/-- A load of one row of a neighbour block. -/
theorem row_eq (x : Vec F S1x384x8x128 .f32) (k : ℕ) (hk : k < 8) (h) :
    View.ld x (Rect.unit (s := S1x384x8x128) ![0, 0, k, 0] ![1, 384, 1, 128] h) = row x ⟨k, hk⟩ := by
  funext j
  have hj : (j 2).val < 1 := (j 2).isLt
  have hj0 : (j 0).val < 1 := (j 0).isLt
  unfold row View.ld
  congr 1
  funext a
  apply Fin.ext
  match a with
  | ⟨0, _⟩ => show 0 + 1 * (j 0).val = 0; omega
  | ⟨1, _⟩ => show 0 + 1 * (j 1).val = (j 1).val; omega
  | ⟨2, _⟩ => show k + 1 * (j 2).val = k; omega
  | ⟨3, _⟩ => show 0 + 1 * (j 3).val = (j 3).val; omega

/-- The scratch at a point: from the row block `x3` and the two halo blocks. -/
def scr (i : grid1.Coords) (x1 : Vec F S384x384 .f32) (x3 : Vec F S1x384x32x128 .f32) (x4 x5 : Vec F S1x384x8x128 .f32) : Vec F S384x4352 .f32 :=
  glue (k1_pay3 i x1 (row x4 7)) (k1_pay2 x1 x3) (k1_pay4 i x1 (row x5 0))

/-- The output block, from the scratch `g`, the taps `w` and the mixed attention `x0`. -/
def outVal (g : Vec F S384x4352 .f32) (w : Vec F S384x9 .f32) (x0 : Vec F S1x384x384 .f32) : FVec F S1x384x32x128 .f32 :=
  k1_pay1
    (k1_pay9 (k1_pay6 (col w 1) (win g 0 (by decide)) (col w 4) (win g 128 (by decide)) (col w 7) (win g 256 (by decide))) k1_pay7 (k1_pay8 (col w 0))
      (win g 0 (by decide)) (col w 3) (win g 128 (by decide)) (col w 6) (win g 256 (by decide)))
    (k1_pay10 k1_pay5) (k1_pay11 (col w 2) (win g 0 (by decide)) (col w 5) (win g 128 (by decide))) (k1_pay12 (col w 8)) (win g 256 (by decide)) x0

/-- What the body leaves in the output block. -/
theorem out_A (c : Dev nD) (i : grid1.Coords) (a3 : Memref sig .tc .vmem S1x384x384 .f32) (h3 : a3.IsWhole) (a4 : Memref sig .tc .vmem S384x384 .f32) (h4 : a4.IsWhole)
    (a5 : Memref sig .tc .vmem S384x9 .f32) (h5 : a5.IsWhole) (a6 : Memref sig .tc .vmem S1x384x32x128 .f32) (h6 : a6.IsWhole)
    (a7 : Memref sig .tc .vmem S1x384x8x128 .f32) (h7 : a7.IsWhole) (a8 : Memref sig .tc .vmem S1x384x8x128 .f32) (h8 : a8.IsWhole)
    (a9 : Memref sig .tc .vmem S1x384x32x128 .f32) (h9 : a9.IsWhole) (a10 : Memref sig .tc .vmem S384x4352 .f32) (h10 : a10.IsWhole)
    (x0 : Vec F S1x384x384 .f32) (x1 : Vec F S384x384 .f32) (x2 : Vec F S384x9 .f32) (x3 : Vec F S1x384x32x128 .f32) (x4 x5 : Vec F S1x384x8x128 .f32) :
    out1_A_6 c i a3 h3 a4 h4 a5 h5 a6 h6 a7 h7 a8 h8 a9 h9 a10 h10 x0 x1 x2 x3 x4 x5 = outVal (scr i x1 x3 x4 x5) x2 x0 := by
  unfold out1_A_6
  rw [View.read_writes_eq_canon _ _ _ (cover1_A_6 c i a3 h3 a4 h4 a5 h5 a6 h6 a7 h7 a8 h8 a9 h9 a10 h10 x0 x1 x2 x3 x4 x5)]
  unfold kernelRun1_A
  dsimp only
  sl_unfold_words
  rw [View.canon_unit_zero hz4]
  simp only [View.readCov_eq_canon', canon_glue, View.readAt_eq_ld, h3.read_unread, h4.read_unread, h5.read_unread, h6.read_unread, h7.read_unread, h8.read_unread,
    View.ld_unit_zero (S := S1x384x384) hz3, View.ld_unit_zero (S := S384x384) hz2, View.ld_unit_zero (S := S1x384x32x128) hz4]
  rw [col_eq x2 0 (by decide), col_eq x2 1 (by decide), col_eq x2 2 (by decide), col_eq x2 3 (by decide), col_eq x2 4 (by decide), col_eq x2 5 (by decide),
    col_eq x2 6 (by decide), col_eq x2 7 (by decide), col_eq x2 8 (by decide)]
  rw [row_eq x4 7 (by decide), row_eq x5 0 (by decide)]
  rw [win_eq _ 0 (by decide), win_eq _ 128 (by decide), win_eq _ 256 (by decide)]
  rfl

variable (V : (c : Dev nD) → (b : Ref sig .tc) → Buf (Elt F) ((c : Thread nD τ).loc b))

/-- The point `4 b + k` of the grid: batch `b`, row block `k`. -/
abbrev pt (b : Fin 8) (k : Fin 4) : Fin cfg1.N := ⟨4 * b.val + k.val, lt_of_lt_of_eq (by have := b.isLt; have := k.isLt; omega) N_1.symm⟩

/-- The row block of row `h`. -/
abbrev blkOf (h : Fin 128) : Fin 4 := ⟨h.val / 32, by have := h.isLt; omega⟩
/-- The row's place in its block. -/
abbrev rowOf (h : Fin 128) : Fin 32 := ⟨h.val % 32, Nat.mod_lt _ (by decide)⟩

/-- The block index of each window at each point, and that the output is written back at every point. -/
theorem idx0 : ∀ t : Fin cfg1.N, win1_0.index t (0 : Fin 3) = t.val / 4 ∧ win1_0.index t (1 : Fin 3) = 0 ∧ win1_0.index t (2 : Fin 3) = 0 :=
  (by decide +kernel : ∀ t : Fin grid1.N, _)
theorem idx1 : ∀ t : Fin cfg1.N, win1_1.index t (0 : Fin 2) = 0 ∧ win1_1.index t (1 : Fin 2) = 0 :=
  (by decide +kernel : ∀ t : Fin grid1.N, _)
theorem idx2 : ∀ t : Fin cfg1.N, win1_2.index t (0 : Fin 2) = 0 ∧ win1_2.index t (1 : Fin 2) = 0 :=
  (by decide +kernel : ∀ t : Fin grid1.N, _)
theorem idx3 : ∀ t : Fin cfg1.N, win1_3.index t (0 : Fin 4) = t.val / 4 ∧ win1_3.index t (1 : Fin 4) = 0 ∧ win1_3.index t (2 : Fin 4) = t.val % 4 ∧ win1_3.index t (3 : Fin 4) = 0 :=
  (by decide +kernel : ∀ t : Fin grid1.N, _)
/-- The halo block above: the last eight rows before the block (the first eight of the plane at its top). -/
theorem idx4 : ∀ t : Fin cfg1.N, win1_4.index t (0 : Fin 4) = t.val / 4 ∧ win1_4.index t (1 : Fin 4) = 0 ∧ win1_4.index t (2 : Fin 4) = 4 * (t.val % 4) - 1 ∧ win1_4.index t (3 : Fin 4) = 0 :=
  (by decide +kernel : ∀ t : Fin grid1.N, _)
/-- The halo block below: the first eight rows after the block (the last eight of the plane at its bottom). -/
theorem idx5 : ∀ t : Fin cfg1.N, win1_5.index t (0 : Fin 4) = t.val / 4 ∧ win1_5.index t (1 : Fin 4) = 0 ∧ win1_5.index t (2 : Fin 4) = min (4 * (t.val % 4) + 4) 15 ∧ win1_5.index t (3 : Fin 4) = 0 :=
  (by decide +kernel : ∀ t : Fin grid1.N, _)
theorem idx6 : ∀ t : Fin cfg1.N, win1_6.index t (0 : Fin 4) = t.val / 4 ∧ win1_6.index t (1 : Fin 4) = 0 ∧ win1_6.index t (2 : Fin 4) = t.val % 4 ∧ win1_6.index t (3 : Fin 4) = 0 :=
  (by decide +kernel : ∀ t : Fin grid1.N, _)
theorem flush6 : ∀ t : Fin cfg1.N, (cfg1.win 6).flush t = true := (by decide +kernel : ∀ t : Fin grid1.N, win1_6.flush t = true)

/-- The block of the output that point `t` computes. -/
def blockVal (c : Dev nD) (t : Fin cfg1.N) : Vec F S1x384x32x128 .f32 :=
  outVal (scr (grid1.coords t) (iblk V c 1 t) (iblk V c 3 t) (iblk V c 4 t) (iblk V c 5 t)) (iblk V c 2 t) (iblk V c 0 t)

/-- What the output array ends holding. -/
def final (c : Dev nD) : Buf (Elt F) ((c : Thread nD τ).loc main_v2) := fun i : S8x384x128x128.Idx =>
  blockVal V c (pt (i 0) (blkOf (i 2))) (ix4 0 (i 1) (rowOf (i 2)) (i 3))

/-- The output block at a point. -/
theorem outsAt1_eq (c : Dev nD) (t : Fin cfg1.N) : outsAt1 V c t = blockVal V c t := by
  unfold outsAt1 blockVal
  rw [out_A]

/-- What a write-back writes is the output block of its point. -/
theorem flushed_eq (c : Dev nD) (t : Fin cfg1.N) (hf : (cfg1.win 6).flush t = true) :
    (dat V c).flushed 6 t = ((cfg1.win 6).blk t).view.read (Elt F) (final V c) := by
  show (cfg1.win 6).cut (grid1.coords t) ((dat V c).after 6 t) = _
  rw [after1_6, outsAt1_eq]
  have hN : cfg1.N = 32 := N_1
  obtain ⟨e0, e1, e2, e3⟩ := idx6 t
  funext y
  have hy0 : (y 0).val < 1 := (y 0).isLt
  have hy1 : (y 1).val < 384 := (y 1).isLt
  have hy2 : (y 2).val < 32 := (y 2).isLt
  have hy3 : (y 3).val < 128 := (y 3).isLt
  have hb0 : ((((cfg1.win 6).blk t).view.emb y : S8x384x128x128.Idx) 0).val = t.val / 4 := by
    show win1_6.index t (0 : Fin 4) * 1 + 1 * (y 0).val = _; rw [e0]; omega
  have hb1 : ((((cfg1.win 6).blk t).view.emb y : S8x384x128x128.Idx) 1).val = (y 1).val := by
    show win1_6.index t (1 : Fin 4) * 384 + 1 * (y 1).val = _; rw [e1]; omega
  have hb2 : ((((cfg1.win 6).blk t).view.emb y : S8x384x128x128.Idx) 2).val = 32 * (t.val % 4) + (y 2).val := by
    show win1_6.index t (2 : Fin 4) * 32 + 1 * (y 2).val = _; rw [e2]; omega
  have hb3 : ((((cfg1.win 6).blk t).view.emb y : S8x384x128x128.Idx) 3).val = (y 3).val := by
    show win1_6.index t (3 : Fin 4) * 128 + 1 * (y 3).val = _; rw [e3]; omega
  show blockVal V c t ((cfg1.win 6).xinj (grid1.coords t) y) = final V c (((cfg1.win 6).blk t).view.emb y)
  generalize (((cfg1.win 6).blk t).view.emb y : S8x384x128x128.Idx) = z at hb0 hb1 hb2 hb3 ⊢
  unfold final
  have hp : pt (z 0) (blkOf (z 2)) = t := Fin.ext (by show 4 * (z 0).val + (z 2).val / 32 = t.val; rw [hb0, hb2]; omega)
  rw [hp]
  congr 1
  funext a
  apply Fin.ext
  match a with
  | ⟨0, _⟩ => show (y 0).val = 0; omega
  | ⟨1, _⟩ => exact hb1.symm
  | ⟨2, _⟩ => show (y 2).val = (z 2).val % 32; rw [hb2]; omega
  | ⟨3, _⟩ => exact hb3.symm

/-- The output array of the second call. -/
theorem arr_eq (c : Dev nD) : (dat V c).arrAt 6 cfg1.N = final V c :=
  (dat V c).arrAt_eq_of_cover 6 (final V c) (flushed_eq V c) fun i =>
    ⟨pt (i 0) (blkOf (i 2)), flush6 _, by
      show (i : S8x384x128x128.Idx) ∈ ((View.whole main_v2).slice (win1_6.rect (pt (i 0) (blkOf (i 2))))).set
      rw [View.set_slice_whole, Rect.mem_set_unit]
      obtain ⟨e0, e1, e2, e3⟩ := idx6 (pt (i 0) (blkOf (i 2)))
      have h0 : (i 0 : Nat) < 8 := (i 0).isLt
      have h1 : (i 1 : Nat) < 384 := (i 1).isLt
      have h2 : (i 2 : Nat) < 128 := (i 2).isLt
      have h3 : (i 3 : Nat) < 128 := (i 3).isLt
      intro a
      match a with
      | ⟨0, _⟩ => show win1_6.index (pt (i 0) (blkOf (i 2))) (0 : Fin 4) * 1 ≤ (i 0 : Nat) ∧ (i 0 : Nat) < win1_6.index (pt (i 0) (blkOf (i 2))) (0 : Fin 4) * 1 + 1
                  rw [e0]; show (4 * (i 0).val + (i 2).val / 32) / 4 * 1 ≤ (i 0).val ∧ (i 0).val < (4 * (i 0).val + (i 2).val / 32) / 4 * 1 + 1; omega
      | ⟨1, _⟩ => show win1_6.index (pt (i 0) (blkOf (i 2))) (1 : Fin 4) * 384 ≤ (i 1 : Nat) ∧ (i 1 : Nat) < win1_6.index (pt (i 0) (blkOf (i 2))) (1 : Fin 4) * 384 + 384
                  rw [e1]; omega
      | ⟨2, _⟩ => show win1_6.index (pt (i 0) (blkOf (i 2))) (2 : Fin 4) * 32 ≤ (i 2 : Nat) ∧ (i 2 : Nat) < win1_6.index (pt (i 0) (blkOf (i 2))) (2 : Fin 4) * 32 + 32
                  rw [e2]; show (4 * (i 0).val + (i 2).val / 32) % 4 * 32 ≤ (i 2).val ∧ (i 2).val < (4 * (i 0).val + (i 2).val / 32) % 4 * 32 + 32; omega
      | ⟨3, _⟩ => show win1_6.index (pt (i 0) (blkOf (i 2))) (3 : Fin 4) * 128 ≤ (i 3 : Nat) ∧ (i 3 : Nat) < win1_6.index (pt (i 0) (blkOf (i 2))) (3 : Fin 4) * 128 + 128
                  rw [e3]; omega⟩

/-- The coordinate the body tests for the top and the bottom of the plane is the row block. -/
theorem coord2 (b : Fin 8) (k : Fin 4) : (grid1.coords (pt b k) 2).val = k.val := by
  have hk := k.isLt
  have e : (grid1.coords (pt b k) 2).val = (4 * b.val + k.val) / 1 % 4 := Pipeline.Grid.coords_val (pt b k) 2 (by decide) rfl
  rw [e]; omega

/-- The six input blocks at an index: the first is the batch entry's mixing matrix. -/
theorem iblk0_apply (c : Dev nD) (b : Fin 8) (k : Fin 4) (o d : Fin 384) :
    (iblk V c 0 (pt b k) : Vec F S1x384x384 .f32) (ix3 0 o d) = (V c main_v1 : Vec F S8x384x384 .f32) (ix3 b o d) := by
  have hk := k.isLt
  unfold iblk
  rw [View.read_apply]
  obtain ⟨e0, e1, e2⟩ := idx0 (pt b k)
  show V c main_v1 _ = V c main_v1 _
  congr 1
  funext a
  apply Fin.ext
  match a with
  | ⟨0, _⟩ => show win1_0.index (pt b k) (0 : Fin 3) * 1 + 1 * 0 = b.val; rw [e0]; dsimp only; omega
  | ⟨1, _⟩ => show win1_0.index (pt b k) (1 : Fin 3) * 384 + 1 * o.val = o.val; rw [e1]; omega
  | ⟨2, _⟩ => show win1_0.index (pt b k) (2 : Fin 3) * 384 + 1 * d.val = d.val; rw [e2]; omega

/-- The input projection's weights, whole. -/
theorem iblk1_apply (c : Dev nD) (t : Fin cfg1.N) (o d : Fin 384) :
    (iblk V c 1 t : Vec F S384x384 .f32) (ix2 o d) = (V c main_arg1 : Vec F S384x384 .f32) (ix2 o d) := by
  unfold iblk
  rw [View.read_apply]
  obtain ⟨e0, e1⟩ := idx1 t
  show V c main_arg1 _ = V c main_arg1 _
  congr 1
  funext a
  apply Fin.ext
  match a with
  | ⟨0, _⟩ => show win1_1.index t (0 : Fin 2) * 384 + 1 * o.val = o.val; rw [e0]; omega
  | ⟨1, _⟩ => show win1_1.index t (1 : Fin 2) * 384 + 1 * d.val = d.val; rw [e1]; omega

/-- The taps, whole. -/
theorem iblk2_apply (c : Dev nD) (t : Fin cfg1.N) (o : Fin 384) (k : Fin 9) :
    (iblk V c 2 t : Vec F S384x9 .f32) (ix2 o k) = (V c main_v0 : Vec F S384x9 .f32) (ix2 o k) := by
  unfold iblk
  rw [View.read_apply]
  obtain ⟨e0, e1⟩ := idx2 t
  show V c main_v0 _ = V c main_v0 _
  congr 1
  funext a
  apply Fin.ext
  match a with
  | ⟨0, _⟩ => show win1_2.index t (0 : Fin 2) * 384 + 1 * o.val = o.val; rw [e0]; omega
  | ⟨1, _⟩ => show win1_2.index t (1 : Fin 2) * 9 + 1 * k.val = k.val; rw [e1]; omega

/-- The 32 rows of the point. -/
theorem iblk3_apply (c : Dev nD) (b : Fin 8) (k : Fin 4) (d : Fin 384) (r : Fin 32) (l : Fin 128) (q : Fin 128) (hq : q.val = 32 * k.val + r.val) :
    (iblk V c 3 (pt b k) : Vec F S1x384x32x128 .f32) (ix4 0 d r l) = (V c main_arg0 : Vec F S8x384x128x128 .f32) (ix4 b d q l) := by
  have hk := k.isLt
  unfold iblk
  rw [View.read_apply]
  obtain ⟨e0, e1, e2, e3⟩ := idx3 (pt b k)
  show V c main_arg0 _ = V c main_arg0 _
  congr 1
  funext a
  apply Fin.ext
  match a with
  | ⟨0, _⟩ => show win1_3.index (pt b k) (0 : Fin 4) * 1 + 1 * 0 = b.val; rw [e0]; dsimp only; omega
  | ⟨1, _⟩ => show win1_3.index (pt b k) (1 : Fin 4) * 384 + 1 * d.val = d.val; rw [e1]; omega
  | ⟨2, _⟩ => show win1_3.index (pt b k) (2 : Fin 4) * 32 + 1 * r.val = q.val; rw [e2, hq]; dsimp only; omega
  | ⟨3, _⟩ => show win1_3.index (pt b k) (3 : Fin 4) * 128 + 1 * l.val = l.val; rw [e3]; omega

/-- The row above them, the last of its block of eight. -/
theorem iblk4_apply (c : Dev nD) (b : Fin 8) (k : Fin 4) (d : Fin 384) (l : Fin 128) (q : Fin 128) (hq : q.val + 1 = 32 * k.val) :
    (iblk V c 4 (pt b k) : Vec F S1x384x8x128 .f32) (ix4 0 d 7 l) = (V c main_arg0 : Vec F S8x384x128x128 .f32) (ix4 b d q l) := by
  have hk := k.isLt
  unfold iblk
  rw [View.read_apply]
  obtain ⟨e0, e1, e2, e3⟩ := idx4 (pt b k)
  show V c main_arg0 _ = V c main_arg0 _
  congr 1
  funext a
  apply Fin.ext
  match a with
  | ⟨0, _⟩ => show win1_4.index (pt b k) (0 : Fin 4) * 1 + 1 * 0 = b.val; rw [e0]; dsimp only; omega
  | ⟨1, _⟩ => show win1_4.index (pt b k) (1 : Fin 4) * 384 + 1 * d.val = d.val; rw [e1]; omega
  | ⟨2, _⟩ => show win1_4.index (pt b k) (2 : Fin 4) * 8 + 1 * 7 = q.val; rw [e2]; dsimp only; omega
  | ⟨3, _⟩ => show win1_4.index (pt b k) (3 : Fin 4) * 128 + 1 * l.val = l.val; rw [e3]; omega

/-- The row below them, the first of its block of eight. -/
theorem iblk5_apply (c : Dev nD) (b : Fin 8) (k : Fin 4) (d : Fin 384) (l : Fin 128) (q : Fin 128) (hq : q.val = 32 * k.val + 32) :
    (iblk V c 5 (pt b k) : Vec F S1x384x8x128 .f32) (ix4 0 d 0 l) = (V c main_arg0 : Vec F S8x384x128x128 .f32) (ix4 b d q l) := by
  have hk := k.isLt
  have hq' := q.isLt
  unfold iblk
  rw [View.read_apply]
  obtain ⟨e0, e1, e2, e3⟩ := idx5 (pt b k)
  show V c main_arg0 _ = V c main_arg0 _
  congr 1
  funext a
  apply Fin.ext
  match a with
  | ⟨0, _⟩ => show win1_5.index (pt b k) (0 : Fin 4) * 1 + 1 * 0 = b.val; rw [e0]; dsimp only; omega
  | ⟨1, _⟩ => show win1_5.index (pt b k) (1 : Fin 4) * 384 + 1 * d.val = d.val; rw [e1]; omega
  | ⟨2, _⟩ => show win1_5.index (pt b k) (2 : Fin 4) * 8 + 1 * 0 = q.val; rw [e2]; dsimp only; omega
  | ⟨3, _⟩ => show win1_5.index (pt b k) (3 : Fin 4) * 128 + 1 * l.val = l.val; rw [e3]; omega

end Cert.KernelIdeal.Conv

end
-- ==== Proof.Value.ConvReal.lean ====
/-
  The second call's output array over real arguments: the mixed attention applied to the convolved projection.
-/
module

public import proofs.«01_k».proof.Proof.KernelIdeal.ConvValue
public import proofs.«01_k».proof.Proof.Value.Pay
public import proofs.«01_k».proof.Proof.Value.Spec

@[expose] public section

set_option maxRecDepth 16384

noncomputable section

namespace Cert.KernelIdeal.Conv

open Cert.KernelIdeal Cert.KernelIdeal.Gen
open Idealize.ShloMosaic Idealize.ShloMosaic.TcCoe Idealize.SL.Sem

variable (V : (c : Dev nD) → (b : Ref sig .tc) → Buf (Elt Idealize.ShloMosaic.Ideal) ((c : Thread nD τ).loc b)) (c : Dev nD) (A : Cert.Spec.Args)

variable (M : Fin 8 → Fin 384 → Fin 384 → ℝ)
variable (hX : ∀ b e i j, (V c main_arg0 : Vec Idealize.ShloMosaic.Ideal S8x384x128x128 .f32) (ix4 b e i j) = ((A.X b e i j : ℝ) : EReal))
variable (hQ : ∀ d e, (V c main_arg1 : Vec Idealize.ShloMosaic.Ideal S384x384 .f32) (ix2 d e) = ((A.Wqv d e : ℝ) : EReal))
variable (hD : ∀ d k, (V c main_v0 : Vec Idealize.ShloMosaic.Ideal S384x9 .f32) (ix2 d k) = ((A.Wdw d (Cert.Spec.tapRow k) (Cert.Spec.tapCol k) : ℝ) : EReal))
variable (hM : ∀ b o d, (V c main_v1 : Vec Idealize.ShloMosaic.Ideal S8x384x384 .f32) (ix3 b o d) = ((M b o d : ℝ) : EReal))

/-- The scratch at point `(b, k)`. -/
abbrev scrAt (b : Fin 8) (k : Fin 4) : Vec Idealize.ShloMosaic.Ideal S384x4352 .f32 :=
  scr (grid1.coords (pt b k)) (iblk V c 1 (pt b k)) (iblk V c 3 (pt b k)) (iblk V c 4 (pt b k)) (iblk V c 5 (pt b k))

include hX hQ in
/-- The scratch holds the rows of the projected input from one above the block to one below, zero outside the plane. -/
theorem scr_real (b : Fin 8) (k : Fin 4) (d : Fin 384) (p : Fin 4352) (q : ℕ) (l : Fin 128) (hq : q = 32 * k.val + p.val / 128) (hl : l.val = p.val % 128) :
    scrAt V c b k (ix2 d p) = ((Cert.Spec.rowPad A b d q l : ℝ) : EReal) := by
  have hk := k.isLt
  have hp := p.isLt
  show scr _ _ _ _ _ (ix2 d p) = _
  unfold scr glue
  dsimp only
  show (if h : p.val < 128 then _ else _) = _
  by_cases c1 : p.val < 128
  · refine (dif_pos c1).trans ?_
    show k1_pay3 _ _ _ (ix2 d ⟨p.val, c1⟩) = _
    rw [Pay.xv_top, coord2]
    by_cases c2 : k.val = 0
    · rw [if_pos c2]
      unfold Cert.Spec.rowPad
      rw [dif_neg (by omega), EReal.coe_zero]
    · rw [if_neg c2]
      unfold Cert.Spec.rowPad
      rw [dif_pos (by omega)]
      refine Cert.Spec.sum_mul_coe _ _ _ _ (fun e => (iblk1_apply V c (pt b k) d e).trans (hQ d e)) (fun e => ?_)
      refine (iblk4_apply V c b k e ⟨p.val, c1⟩ ⟨q - 1, by omega⟩ (by show q - 1 + 1 = _; omega)).trans ?_
      rw [show (⟨p.val, c1⟩ : Fin 128) = l from Fin.ext (by show p.val = l.val; omega)]
      exact hX _ _ _ _
  · refine (dif_neg c1).trans ?_
    by_cases c2 : p.val < 4224
    · refine (dif_pos (c := p.val < 4224) c2).trans ?_
      show k1_pay2 _ _ (ix2 d ⟨p.val - 128, by omega⟩) = _
      rw [Pay.xv_mid]
      unfold Cert.Spec.rowPad
      rw [dif_pos (by omega)]
      refine Cert.Spec.sum_mul_coe _ _ _ _ (fun e => (iblk1_apply V c (pt b k) d e).trans (hQ d e)) (fun e => ?_)
      refine (iblk3_apply V c b k e _ _ ⟨q - 1, by omega⟩ (by show q - 1 = 32 * k.val + (p.val - 128) / 128; omega)).trans ?_
      rw [show (⟨(p.val - 128) % 128, by omega⟩ : Fin 128) = l from Fin.ext (by show (p.val - 128) % 128 = l.val; omega)]
      exact hX _ _ _ _
    · refine (dif_neg (c := p.val < 4224) c2).trans ?_
      show k1_pay4 _ _ _ (ix2 d ⟨p.val - 4224, by omega⟩) = _
      rw [Pay.xv_bot, coord2]
      by_cases c3 : k.val = 3
      · rw [if_pos c3]
        unfold Cert.Spec.rowPad
        rw [dif_neg (by omega), EReal.coe_zero]
      · rw [if_neg c3]
        unfold Cert.Spec.rowPad
        rw [dif_pos (by omega)]
        refine Cert.Spec.sum_mul_coe _ _ _ _ (fun e => (iblk1_apply V c (pt b k) d e).trans (hQ d e)) (fun e => ?_)
        refine (iblk5_apply V c b k e ⟨p.val - 4224, by omega⟩ ⟨q - 1, by omega⟩ (by show q - 1 = _; omega)).trans ?_
        rw [show (⟨p.val - 4224, by omega⟩ : Fin 128) = l from Fin.ext (by show p.val - 4224 = l.val; omega)]
        exact hX _ _ _ _

include hD in
/-- A tap column at a channel. -/
theorem tap_real (t : Fin cfg1.N) (d : Fin 384) (k : Fin 9) (a e : Fin 3) (h : k.val = 3 * a.val + e.val) :
    col (iblk V c 2 t : Vec Idealize.ShloMosaic.Ideal S384x9 .f32) k (ix2 d 0) = ((A.Wdw d a e : ℝ) : EReal) := by
  have ha := a.isLt
  have he := e.isLt
  refine (iblk2_apply V c t d k).trans ((hD d k).trans ?_)
  rw [show Cert.Spec.tapRow k = a from Fin.ext (by show k.val / 3 = a.val; omega),
    show Cert.Spec.tapCol k = e from Fin.ext (by show k.val % 3 = e.val; omega)]

include hX hQ in
/-- Row `r + s` of the scratch, read through the window that starts `s` rows in. -/
theorem win_real (b : Fin 8) (k : Fin 4) (d : Fin 384) (o : ℕ) (ho : o ≤ 256) (p : Fin 4096) (q : ℕ) (l : Fin 128)
    (hq : q = 32 * k.val + (o + p.val) / 128) (hl : l.val = (o + p.val) % 128) :
    win (scrAt V c b k) o ho (ix2 d p) = ((Cert.Spec.rowPad A b d q l : ℝ) : EReal) :=
  scr_real V c A hX hQ b k d ⟨o + p.val, by omega⟩ q l hq hl

include hX hQ hD in
/-- The three taps of one column of the stencil, over three rows of the scratch. -/
theorem mid_cols (b : Fin 8) (k : Fin 4) (d : Fin 384) (p : Fin 4096) (i : ℕ) (l : Fin 128) (hi : i = 32 * k.val + p.val / 128) (hl : l.val = p.val % 128) (a0 a1 a2 : Fin 9) (e : Fin 3)
    (h0 : a0.val = e.val) (h1 : a1.val = 3 + e.val) (h2 : a2.val = 6 + e.val) :
    col (iblk V c 2 (pt b k) : Vec Idealize.ShloMosaic.Ideal S384x9 .f32) a0 (ix2 d 0) * win (scrAt V c b k) 0 (by decide) (ix2 d p)
      + col (iblk V c 2 (pt b k) : Vec Idealize.ShloMosaic.Ideal S384x9 .f32) a1 (ix2 d 0) * win (scrAt V c b k) 128 (by decide) (ix2 d p)
      + col (iblk V c 2 (pt b k) : Vec Idealize.ShloMosaic.Ideal S384x9 .f32) a2 (ix2 d 0) * win (scrAt V c b k) 256 (by decide) (ix2 d p)
      = ((A.Wdw d 0 e * Cert.Spec.rowPad A b d i l + A.Wdw d 1 e * Cert.Spec.rowPad A b d (1 + i) l + A.Wdw d 2 e * Cert.Spec.rowPad A b d (2 + i) l : ℝ) : EReal) := by
  have hp := p.isLt
  rw [tap_real V c A hD (pt b k) d a0 0 e (by rw [h0]; show e.val = 3 * 0 + e.val; omega), tap_real V c A hD (pt b k) d a1 1 e (by rw [h1]; rfl), tap_real V c A hD (pt b k) d a2 2 e (by rw [h2]; rfl),
    win_real V c A hX hQ b k d 0 _ p i l (by omega) (by omega), win_real V c A hX hQ b k d 128 _ p (1 + i) l (by omega) (by omega), win_real V c A hX hQ b k d 256 _ p (2 + i) l (by omega) (by omega),
    ← EReal.coe_mul, ← EReal.coe_mul, ← EReal.coe_mul, ← EReal.coe_add, ← EReal.coe_add]

include hX hQ hD hM in
/-- The second call's output, entry by entry. -/
theorem final_real (b : Fin 8) (o : Fin 384) (i j : Fin 128) :
    (final V c : Vec Idealize.ShloMosaic.Ideal S8x384x128x128 .f32) (ix4 b o i j) = ((∑ d : Fin 384, M b o d * Cert.Spec.v A b d i j : ℝ) : EReal) := by
  show blockVal V c (pt b (blkOf i)) (ix4 0 o (rowOf i) j) = _
  unfold blockVal outVal
  rw [Pay.right]
  have hi := i.isLt
  have hj := j.isLt
  refine Cert.Spec.sum_mul_coe _ _ _ _ (fun d => (iblk0_apply V c b (blkOf i) o d).trans (hM b o d)) (fun d => ?_)
  rw [Cert.Spec.v_cols, EReal.coe_add, EReal.coe_add, Pay.left, Pay.mix3]
  refine congrArg₂ (· + ·) (congrArg₂ (· + ·) ?_ ?_) ?_
  · exact mid_cols V c A hX hQ hD b (blkOf i) d _ i.val j (by show i.val = 32 * (i.val / 32) + (i.val % 32 * 128 + j.val) / 128; omega)
      (by show j.val = (i.val % 32 * 128 + j.val) % 128; omega) 1 4 7 1 rfl rfl rfl
  · by_cases h : j.val = 0
    · rw [dif_pos h, dif_pos (by show (i.val % 32 * 128 + j.val) % 128 = 0; omega), EReal.coe_zero]
    · rw [dif_neg h, dif_neg (by show ¬ (i.val % 32 * 128 + j.val) % 128 = 0; omega)]
      exact mid_cols V c A hX hQ hD b (blkOf i) d _ i.val ⟨j.val - 1, by omega⟩ (by show i.val = 32 * (i.val / 32) + (i.val % 32 * 128 + j.val - 1) / 128; omega)
        (by show j.val - 1 = (i.val % 32 * 128 + j.val - 1) % 128; omega) 0 3 6 0 rfl rfl rfl
  · by_cases h : j.val = 127
    · rw [dif_pos h, dif_pos h, EReal.coe_zero]
    · rw [dif_neg h, dif_neg h, Pay.mix2]
      exact mid_cols V c A hX hQ hD b (blkOf i) d _ i.val ⟨j.val + 1, by omega⟩ (by show i.val = 32 * (i.val / 32) + (i.val % 32 * 128 + j.val + 1) / 128; omega)
        (by show j.val + 1 = (i.val % 32 * 128 + j.val + 1) % 128; omega) 2 5 8 2 rfl rfl rfl

end Cert.KernelIdeal.Conv

end
-- ==== Proof.Value.Consts.lean ====
/-
  The float constants of the two programs as extended reals.
-/
module

public import Idealize.ShloMosaic.PureOps.Ideal
public import Idealize.ShloMosaic.Lib.IdealHost

@[expose] public section

set_option maxRecDepth 16384

noncomputable section

namespace Cert.Consts

open Idealize.ShloMosaic

/-- The words for minus infinity, infinity and 384. -/
theorem negInf : Ideal.ofBits .f32 0xFF800000#32 = ⊥ := by
  simp [Ideal.ofBits, Ideal.ieee]

theorem posInf : Ideal.ofBits .f32 0x7F800000#32 = ⊤ := by
  simp [Ideal.ofBits, Ideal.ieee]

theorem channels : Ideal.ofBits .f32 0x43C00000#32 = ((384 : ℝ) : EReal) := by
  simp [Ideal.ofBits, Ideal.ieee, -EReal.coe_mul]; norm_num

/-- One over the root of 384. -/
theorem scale : Ideal.div 1 (Ideal.sqrt (Ideal.ofBits .f32 0x43C00000#32)) = (((Real.sqrt 384)⁻¹ : ℝ) : EReal) := by
  have h : Real.sqrt 384 ≠ 0 := (Real.sqrt_pos.2 (by norm_num)).ne'
  rw [channels]
  have e : Ideal.sqrt ((384 : ℝ) : EReal) = ((Real.sqrt 384 : ℝ) : EReal) := by
    show (if (384 : ℝ) < 0 then (⊥ : EReal) else _) = _
    rw [if_neg (by norm_num)]
  rw [e, Ideal.div_coe h, one_mul, one_div]

end Cert.Consts

end
-- ==== Proof.Value.Steps.lean ====
/-
  The reference's steps at an index, over the extended reals: the projection, the nine taps of the convolution, the scores,
  the softmax and the output projection.
-/
module

public import proofs.«01_k».proof.Proof.Gen.ReferenceIdeal.Run
public import proofs.«01_k».proof.Proof.Value.Consts
public import Idealize.ShloMosaic.Lib.Pointwise

@[expose] public section

set_option maxRecDepth 16384

noncomputable section

namespace Cert.ReferenceIdeal.Steps

open Cert.ReferenceIdeal Cert.ReferenceIdeal.Gen Cert.ReferenceIdeal.Facts
open Idealize.ShloMosaic Idealize.ShloMosaic.TcCoe

set_option maxHeartbeats 1000000

/-- A 1×1 convolution: the weights applied along the channel axis. -/
def proj (w : FVec Ideal S384x384 .f32) (x : FVec Ideal S8x384x128x128 .f32) : FVec Ideal S8x384x128x128 .f32 :=
  transpose S8x384x128x128 [1, 0, 2, 3] (Host.dotGeneral dot_S384x384_S8x384x128x128_S384x8x128x128_1_1_0_023_n_n none w x) transposes_S384x8x128x128_S8x384x128x128_1_0_2_3

/-- One row and one column of zeros on each side. -/
def padded (x : FVec Ideal S8x384x128x128 .f32) : FVec Ideal S8x384x130x130 .f32 :=
  pad S8x384x130x130 ![0, 0, 1, 1] ![0, 0, 1, 1] ![0, 0, 0, 0] x (sitofp .f32 (constantI S_ 32 0#32)) pads_S8x384x128x128_S8x384x130x130_000_000_110_110 h_S_

/-- One of the nine shifted products. -/
def tap (a b : Nat) (h : S384x1x3x3.Slices ![0, 0, a, b] S384x1x1x1) (h' : S8x384x130x130.Slices ![0, 0, a, b] S8x384x128x128)
    (w : FVec Ideal S384x1x3x3 .f32) (p : FVec Ideal S8x384x130x130 .f32) : FVec Ideal S8x384x128x128 .f32 :=
  mulf (broadcastInDim S8x384x128x128 ![0, 1, 2, 3] bcast_S1x384x1x1_S8x384x128x128_0_1_2_3 (broadcastInDim S1x384x1x1 ![1] bcast_S384_S1x384x1x1_1
    (shapeCast S384 (extractStridedSlice S384x1x1x1 ![0, 0, a, b] w h) shapeCasts_S384x1x1x1_S384))) (extractStridedSlice S8x384x128x128 ![0, 0, a, b] p h')

/-- The depthwise convolution: the sum of the nine. -/
def conv (w : FVec Ideal S384x1x3x3 .f32) (p : FVec Ideal S8x384x130x130 .f32) : FVec Ideal S8x384x128x128 .f32 :=
  addf (addf (addf (addf (addf (addf (addf (addf (addf (broadcastInDim S8x384x128x128 ![] bcast_S_S8x384x128x128 (constant S_ .f32 0x00000000#32)) (tap 0 0 slices_S384x1x3x3_S384x1x1x1_0_0_0_0 slices_S8x384x130x130_S8x384x128x128_0_0_0_0 w p)) (tap 0 1 slices_S384x1x3x3_S384x1x1x1_0_0_0_1 slices_S8x384x130x130_S8x384x128x128_0_0_0_1 w p)) (tap 0 2 slices_S384x1x3x3_S384x1x1x1_0_0_0_2 slices_S8x384x130x130_S8x384x128x128_0_0_0_2 w p)) (tap 1 0 slices_S384x1x3x3_S384x1x1x1_0_0_1_0 slices_S8x384x130x130_S8x384x128x128_0_0_1_0 w p)) (tap 1 1 slices_S384x1x3x3_S384x1x1x1_0_0_1_1 slices_S8x384x130x130_S8x384x128x128_0_0_1_1 w p)) (tap 1 2 slices_S384x1x3x3_S384x1x1x1_0_0_1_2 slices_S8x384x130x130_S8x384x128x128_0_0_1_2 w p)) (tap 2 0 slices_S384x1x3x3_S384x1x1x1_0_0_2_0 slices_S8x384x130x130_S8x384x128x128_0_0_2_0 w p)) (tap 2 1 slices_S384x1x3x3_S384x1x1x1_0_0_2_1 slices_S8x384x130x130_S8x384x128x128_0_0_2_1 w p)) (tap 2 2 slices_S384x1x3x3_S384x1x1x1_0_0_2_2 slices_S8x384x130x130_S8x384x128x128_0_0_2_2 w p)

/-- The scaled scores of a head's channels against one another. -/
def scores (x : FVec Ideal S8x384x128x128 .f32) : FVec Ideal S8x8x48x48 .f32 :=
  mulf (Host.dotGeneral dot_S8x8x48x16384_S8x8x48x16384_S8x8x48x48_3_3_2_2_01_01 none (shapeCast S8x8x48x16384 x shapeCasts_S8x384x128x128_S8x8x48x16384) (shapeCast S8x8x48x16384 x shapeCasts_S8x384x128x128_S8x8x48x16384))
    (broadcastInDim S8x8x48x48 ![] bcast_S_S8x8x48x48 (Host.divf (constant S_ .f32 0x3F800000#32) (Host.sqrt (constant S_ .f32 0x43C00000#32))))

/-- The exponentials of the scores less their row's maximum. -/
def expd (s : FVec Ideal S8x8x48x48 .f32) : FVec Ideal S8x8x48x48 .f32 :=
  Host.exp (subf s (broadcastInDim S8x8x48x48 ![0, 1, 2, 3] bcast_S8x8x48x1_S8x8x48x48_0_1_2_3 (broadcastInDim S8x8x48x1 ![0, 1, 2] bcast_S8x8x48_S8x8x48x1_0_1_2
    (maximumf (broadcastInDim S8x8x48 ![] bcast_S_S8x8x48 (constant S_ .f32 0xFF800000#32)) (Host.reduce FloatOps.maximumf s (constant S_ .f32 0xFF800000#32) reducesTo_S8x8x48x48_S8x8x48_d3 h_S_)))))

/-- Each divided by its row's sum. -/
def soft (s : FVec Ideal S8x8x48x48 .f32) : FVec Ideal S8x8x48x48 .f32 :=
  Host.divf (expd s) (broadcastInDim S8x8x48x48 ![0, 1, 2, 3] bcast_S8x8x48x1_S8x8x48x48_0_1_2_3 (broadcastInDim S8x8x48x1 ![0, 1, 2] bcast_S8x8x48_S8x8x48x1_0_1_2
    (Host.reduceAdd (expd s) (constant S_ .f32 0x00000000#32) reducesTo_S8x8x48x48_S8x8x48_d3 h_S_)))

/-- The attention applied to the values, head by head. -/
def mixed (a : FVec Ideal S8x8x48x48 .f32) (v : FVec Ideal S8x384x128x128 .f32) : FVec Ideal S8x384x128x128 .f32 :=
  shapeCast S8x384x128x128 (Host.dotGeneral dot_S8x8x48x48_S8x8x48x16384_S8x8x48x16384_3_2_2_3_01_01 none a (shapeCast S8x8x48x16384 v shapeCasts_S8x384x128x128_S8x8x48x16384)) shapeCasts_S8x8x48x16384_S8x384x128x128

set_option maxHeartbeats 4000000 in
/-- The reference's result is these steps in turn. -/
theorem result_eq (m : (ℓ : Loc nD τ sig) → Buf (Elt Ideal) ℓ) (c : Dev nD) :
    Value.res_main_v88 m c = proj (m ((c.tc : Thread nD τ).loc main_arg3)) (mixed (soft (scores (m ((c.tc : Thread nD τ).loc main_arg0))))
      (conv (m ((c.tc : Thread nD τ).loc main_arg2)) (padded (proj (m ((c.tc : Thread nD τ).loc main_arg1)) (m ((c.tc : Thread nD τ).loc main_arg0)))))) := by
  unfold Value.res_main_v88
  rfl

/-- A 1×1 convolution at an index. -/
theorem proj_apply (w : FVec Ideal S384x384 .f32) (x : FVec Ideal S8x384x128x128 .f32) (b : Fin 8) (o : Fin 384) (i j : Fin 128) :
    proj w x (ix4 b o i j) = ∑ e : Fin 384, w (ix2 o e) * x (ix4 b e i j) := by
  pointwise [proj]

/-- The padded array at an index. -/
theorem padded_apply (x : FVec Ideal S8x384x128x128 .f32) (b : Fin 8) (o : Fin 384) (i j : Fin 130) :
    padded x (ix4 b o i j) = if h : (1 ≤ i.val ∧ i.val ≤ 128) ∧ (1 ≤ j.val ∧ j.val ≤ 128) then x (ix4 b o ⟨i.val - 1, by omega⟩ ⟨j.val - 1, by omega⟩) else 0 := by
  pointwise [padded]
  have e : FloatOps.sitofp (F := Idealize.ShloMosaic.Ideal) .f32 0#32 = (0 : EReal) := by
    show (((0#32 : BitVec 32).toInt : ℝ) : EReal) = 0
    simp
  rw [e]
  by_cases h : (1 ≤ i.val ∧ i.val ≤ 128) ∧ (1 ≤ j.val ∧ j.val ≤ 128)
  · rw [dif_pos h, dif_pos (by omega)]
  · rw [dif_neg h, dif_neg (by omega)]

/-- The nine shifted products at an index. -/
theorem conv_apply (w : FVec Ideal S384x1x3x3 .f32) (p : FVec Ideal S8x384x130x130 .f32) (b : Fin 8) (o : Fin 384) (i j : Fin 128) :
    conv w p (ix4 b o i j) = w (ix4 o 0 0 0) * p (ix4 b o ⟨i.val, by omega⟩ ⟨j.val, by omega⟩) + w (ix4 o 0 0 1) * p (ix4 b o ⟨i.val, by omega⟩ ⟨1 + j.val, by omega⟩) + w (ix4 o 0 0 2) * p (ix4 b o ⟨i.val, by omega⟩ ⟨2 + j.val, by omega⟩) + w (ix4 o 0 1 0) * p (ix4 b o ⟨1 + i.val, by omega⟩ ⟨j.val, by omega⟩) + w (ix4 o 0 1 1) * p (ix4 b o ⟨1 + i.val, by omega⟩ ⟨1 + j.val, by omega⟩) + w (ix4 o 0 1 2) * p (ix4 b o ⟨1 + i.val, by omega⟩ ⟨2 + j.val, by omega⟩) + w (ix4 o 0 2 0) * p (ix4 b o ⟨2 + i.val, by omega⟩ ⟨j.val, by omega⟩) + w (ix4 o 0 2 1) * p (ix4 b o ⟨2 + i.val, by omega⟩ ⟨1 + j.val, by omega⟩) + w (ix4 o 0 2 2) * p (ix4 b o ⟨2 + i.val, by omega⟩ ⟨2 + j.val, by omega⟩) := by
  pointwise [conv, tap]

/-- The scores at an index. -/
theorem scores_apply (x : FVec Ideal S8x384x128x128 .f32) (b : Fin 8) (h : Fin 8) (i j : Fin 48) :
    scores x (ix4 b h i j) = (∑ k : Fin 16384, x (ix4 b ⟨h.val * 48 + i.val, by omega⟩ ⟨k.val / 128, by omega⟩ ⟨k.val % 128, by omega⟩)
      * x (ix4 b ⟨h.val * 48 + j.val, by omega⟩ ⟨k.val / 128, by omega⟩ ⟨k.val % 128, by omega⟩)) * (((Real.sqrt 384)⁻¹ : ℝ) : EReal) := by
  pointwise [scores]
  rw [Consts.scale]

/-- The exponentials at an index. -/
theorem expd_apply (s : FVec Ideal S8x8x48x48 .f32) (b : Fin 8) (h : Fin 8) (i j : Fin 48) :
    expd s (ix4 b h i j) = Idealize.ShloMosaic.Ideal.exp (s (ix4 b h i j) - Finset.univ.fold max ⊥ fun k => s (ix4 b h i k)) := by
  pointwise [expd]
  rw [Consts.negInf, max_eq_right bot_le]

/-- The softmax at an index. -/
theorem soft_apply (s : FVec Ideal S8x8x48x48 .f32) (b : Fin 8) (h : Fin 8) (i j : Fin 48) :
    soft s (ix4 b h i j) = Idealize.ShloMosaic.Ideal.div (expd s (ix4 b h i j)) (∑ k : Fin 48, expd s (ix4 b h i k)) := by
  pointwise [soft]

/-- The attention applied, at an index. -/
theorem mixed_apply (a : FVec Ideal S8x8x48x48 .f32) (v : FVec Ideal S8x384x128x128 .f32) (b : Fin 8) (o : Fin 384) (i j : Fin 128) :
    mixed a v (ix4 b o i j) = ∑ k : Fin 48, a (ix4 b ⟨o.val / 48, by omega⟩ ⟨o.val % 48, by omega⟩ k) * v (ix4 b ⟨o.val / 48 * 48 + k.val, by omega⟩ i j) := by
  pointwise [mixed]

end Cert.ReferenceIdeal.Steps

end
-- ==== Proof.Value.RefReal.lean ====
/-
  The reference's result over real arguments.
-/
module

public import proofs.«01_k».proof.Proof.Value.Steps
public import proofs.«01_k».proof.Proof.Value.Spec

@[expose] public section

set_option maxRecDepth 16384

noncomputable section

namespace Cert.ReferenceIdeal.Steps

open Cert.ReferenceIdeal Cert.ReferenceIdeal.Gen
open Idealize.ShloMosaic Idealize.ShloMosaic.TcCoe

variable (A : Cert.Spec.Args) (x : FVec Idealize.ShloMosaic.Ideal S8x384x128x128 .f32) (wq wp : FVec Idealize.ShloMosaic.Ideal S384x384 .f32) (wd : FVec Idealize.ShloMosaic.Ideal S384x1x3x3 .f32)
variable (hX : ∀ b e i j, x (ix4 b e i j) = ((A.X b e i j : ℝ) : EReal))
variable (hQ : ∀ d e, wq (ix2 d e) = ((A.Wqv d e : ℝ) : EReal))
variable (hD : ∀ d a e, wd (ix4 d 0 a e) = ((A.Wdw d a e : ℝ) : EReal))
variable (hP : ∀ o d, wp (ix2 o d) = ((A.Wp o d : ℝ) : EReal))

include hX hQ in
/-- The padded projection. -/
theorem padded_real (b : Fin 8) (d : Fin 384) (i j : Fin 130) : padded (proj wq x) (ix4 b d i j) = ((Cert.Spec.pad A b d i.val j.val : ℝ) : EReal) := by
  rw [padded_apply]
  unfold Cert.Spec.pad Cert.Spec.rowPad
  by_cases hi : 1 ≤ i.val ∧ i.val ≤ 128
  · by_cases hj : 1 ≤ j.val ∧ j.val ≤ 128
    · rw [dif_pos ⟨hi, hj⟩, dif_pos hj, dif_pos hi, proj_apply]
      exact Cert.Spec.sum_mul_coe _ _ _ _ (fun e => hQ d e) (fun e => hX b e _ _)
    · rw [dif_neg (fun h => hj h.2), dif_neg hj, EReal.coe_zero]
  · rw [dif_neg (fun h => hi h.1)]
    simp only [dif_neg hi, dite_eq_ite, ite_self, EReal.coe_zero]

include hX hQ hD in
/-- The depthwise convolution. -/
theorem conv_real (b : Fin 8) (d : Fin 384) (i j : Fin 128) : conv wd (padded (proj wq x)) (ix4 b d i j) = ((Cert.Spec.v A b d i j : ℝ) : EReal) := by
  rw [conv_apply]
  simp only [padded_real A x wq hX hQ, hD, ← EReal.coe_mul, ← EReal.coe_add]
  rfl

include hX in
/-- The scores. -/
theorem scores_real (b : Fin 8) (h : Fin 8) (i j : Fin 48) (c d : Fin 384) (hc : c.val = h.val * 48 + i.val) (hd : d.val = h.val * 48 + j.val) :
    scores x (ix4 b h i j) = ((Cert.Spec.score A b c d : ℝ) : EReal) := by
  rw [scores_apply]
  unfold Cert.Spec.score
  rw [EReal.coe_mul]
  refine congrArg (· * (((Real.sqrt 384)⁻¹ : ℝ) : EReal)) ?_
  rw [show (⟨h.val * 48 + i.val, by omega⟩ : Fin 384) = c from Fin.ext hc.symm, show (⟨h.val * 48 + j.val, by omega⟩ : Fin 384) = d from Fin.ext hd.symm]
  exact Cert.Spec.sum_mul_coe _ _ _ _ (fun k => hX b c _ _) (fun k => hX b d _ _)

include hX in
/-- The attention. -/
theorem soft_real (b : Fin 8) (o : Fin 384) (k : Fin 48) :
    soft (scores x) (ix4 b ⟨o.val / 48, by omega⟩ ⟨o.val % 48, by omega⟩ k) = ((Cert.Spec.att A b o k : ℝ) : EReal) := by
  rw [soft_apply]
  simp only [expd_apply]
  exact Cert.Spec.softmax_all (fun k => Cert.Spec.score A b o (Cert.Spec.peer o k)) k (fun k => scores x (ix4 b ⟨o.val / 48, by omega⟩ ⟨o.val % 48, by omega⟩ k)) fun k =>
    scores_real A x hX b _ _ k o (Cert.Spec.peer o k) (by show o.val = o.val / 48 * 48 + o.val % 48; omega) rfl

include hX hQ hD hP in
/-- The reference's steps give the problem's result. -/
theorem out_real (b : Fin 8) (o : Fin 384) (i j : Fin 128) :
    proj wp (mixed (soft (scores x)) (conv wd (padded (proj wq x)))) (ix4 b o i j) = ((Cert.Spec.out A b o i j : ℝ) : EReal) := by
  rw [proj_apply]
  refine Cert.Spec.sum_mul_coe _ _ _ _ (fun e => hP o e) (fun e => ?_)
  rw [mixed_apply]
  exact Cert.Spec.sum_mul_coe _ _ _ _ (fun k => soft_real A x hX b e k) (fun k => conv_real A x wq wd hX hQ hD b (Cert.Spec.peer e k) i j)

end Cert.ReferenceIdeal.Steps

end
-- ==== Proof.Value.Finite.lean ====
/-
  The precondition opened: every entry of the four arguments is a real number.
-/
module

public import proofs.«01_k».proof.Defs
public import proofs.«01_k».proof.Proof.Value.Consts
public import Idealize.ShloMosaic.Lib.ReduceAll
public import Idealize.ShloMosaic.Lib.Pointwise.Select
public import Idealize.ShloMosaic.Lib.Pointwise.Select
public import Idealize.ShloMosaic.Lib.Decide

@[expose] public section

set_option maxRecDepth 16384

noncomputable section

namespace Cert.Pre_finite

open Idealize.ShloMosaic

/-! ## The side conditions of the printed predicate -/

/-- Each is decided. -/
instance facts : Facts where
  bcast_S_S8x384x128x128 := by decide
  reducesTo_S8x384x128x128_S_d0_1_2_3 := by decide
  h_S_ := by decide
  bcast_S_S384x384 := by decide
  reducesTo_S384x384_S_d0_1 := by decide
  bcast_S_S384x1x3x3 := by decide
  reducesTo_S384x1x3x3_S_d0_1_2_3 := by decide

/-! ## What it says -/

/-- The truth value that the predicate returns has one place. -/
instance one_place : Subsingleton S_.Idx := ⟨fun a b => funext fun d => d.elim0⟩

/-- A conjunction of truth values. -/
theorem both (a b : BitVec 1) : a &&& b = 1#1 → a = 1#1 ∧ b = 1#1 := by
  revert a b; decide

/-- An extended real whose absolute value is below infinity is a real. -/
theorem real_of_bound (a : EReal) (h : max a (-a) < ⊤) : a = ((a.toReal : ℝ) : EReal) := by
  refine (EReal.coe_toReal ?_ ?_).symm
  · rintro rfl; simp at h
  · rintro rfl; simp at h

/-- The comparison at one entry. -/
theorem entry (a : Idealize.ShloMosaic.Ideal .f32) (h : FloatOps.cmpf (F := Idealize.ShloMosaic.Ideal) .olt (FloatOps.absf a) (Scalar.ofBits .f32 0x7F800000#32) = 1#1) : a = (((a : EReal).toReal : ℝ) : EReal) := by
  have h' : Ideal.cmp .olt (max (a : EReal) (-(a : EReal))) (Ideal.ofBits .f32 0x7F800000#32) = 1#1 := h
  rw [Cert.Consts.posInf] at h'
  exact real_of_bound a ((Ideal.cmp_olt_eq_one _ _).mp h')

variable [Facts]

/-- The precondition says that every entry of each argument is a real. -/
theorem opened (a0 : FVec Idealize.ShloMosaic.Ideal S8x384x128x128 .f32) (a1 : FVec Idealize.ShloMosaic.Ideal S384x384 .f32) (a2 : FVec Idealize.ShloMosaic.Ideal S384x1x3x3 .f32) (a3 : FVec Idealize.ShloMosaic.Ideal S384x384 .f32)
    (h : fn (F := Idealize.ShloMosaic.Ideal) a0 a1 a2 a3 = fun _ => 1#1) :
    (∀ i, a0 i = (((a0 i : EReal).toReal : ℝ) : EReal)) ∧ (∀ i, a1 i = (((a1 i : EReal).toReal : ℝ) : EReal))
      ∧ (∀ i, a2 i = (((a2 i : EReal).toReal : ℝ) : EReal)) ∧ (∀ i, a3 i = (((a3 i : EReal).toReal : ℝ) : EReal)) := by
  have h0 := congrFun h (fun d => d.elim0)
  unfold fn fn_part1 at h0
  obtain ⟨h012, h3⟩ := both _ _ h0
  obtain ⟨h01, h2⟩ := both _ _ h012
  obtain ⟨h0', h1⟩ := both _ _ h01
  refine ⟨fun i => entry _ ?_, fun i => entry _ ?_, fun i => entry _ ?_, fun i => entry _ ?_⟩
  · exact Host.reduce_andi_all _ _ _ _ _ h0' i
  · exact Host.reduce_andi_all _ _ _ _ _ h1 i
  · exact Host.reduce_andi_all _ _ _ _ _ h2 i
  · exact Host.reduce_andi_all _ _ _ _ _ h3 i

end Cert.Pre_finite

end
-- ==== Proof.Algebraic.lean ====
/-
  The value claim: over the extended reals, from arguments whose entries are all real, the kernel's result is the reference's.

  Both results are the same real array `Cert.Spec.out`, read at an index: the kernel's through its two calls (`Attn.final_real`,
  `Conv.final_real`), the reference's through its steps (`Steps.out_real`).
-/
module

public import proofs.«01_k».proof.Proof.Frames
public import proofs.«01_k».proof.Proof.Value.AttnReal
public import proofs.«01_k».proof.Proof.Value.ConvReal
public import proofs.«01_k».proof.Proof.Value.RefReal
public import proofs.«01_k».proof.Proof.Value.Finite

@[expose] public section

set_option maxRecDepth 16384

noncomputable section

namespace Cert.Algebraic

open Idealize.ShloMosaic Idealize.ShloMosaic.TcCoe Idealize.SL.Sem
open Cert.KernelIdeal Cert.KernelIdeal.Gen

/-! ## The arguments as real arrays -/

variable (m : (ℓ : Loc nD τ sig) → Buf (Elt Idealize.ShloMosaic.Ideal) ℓ) (c : Dev nD)

/-- The four arguments of core `c`, as the program's memory holds them. -/
abbrev x : FVec Idealize.ShloMosaic.Ideal S8x384x128x128 .f32 := m ((c.tc : Thread nD τ).loc main_arg0)
abbrev wq : FVec Idealize.ShloMosaic.Ideal S384x384 .f32 := m ((c.tc : Thread nD τ).loc main_arg1)
abbrev wd : FVec Idealize.ShloMosaic.Ideal S384x1x3x3 .f32 := m ((c.tc : Thread nD τ).loc main_arg2)
abbrev wp : FVec Idealize.ShloMosaic.Ideal S384x384 .f32 := m ((c.tc : Thread nD τ).loc main_arg3)

/-- Their entries as reals. -/
def args : Cert.Spec.Args where
  X b e i j := (x m c (ix4 b e i j) : EReal).toReal
  Wqv d e := (wq m c (ix2 d e) : EReal).toReal
  Wdw d a e := (wd m c (ix4 d 0 a e) : EReal).toReal
  Wp o d := (wp m c (ix2 o d) : EReal).toReal

/-! ## The kernel's result -/

/-- The reshape before the calls: the nine taps of a channel in a row. -/
theorem taps (d : Fin 384) (k : Fin 9) :
    (V1 m c (Proc.devRef .tc main_v0) : Vec Idealize.ShloMosaic.Ideal S384x9 .f32) (ix2 d k) = wd m c (ix4 d 0 (Cert.Spec.tapRow k) (Cert.Spec.tapCol k)) := by
  have h : (V1 m c (Proc.devRef .tc main_v0) : Vec Idealize.ShloMosaic.Ideal S384x9 .f32) = shapeCast S384x9 (wd m c) shapeCasts_S384x1x3x3_S384x9 := by
    show StableHlo.after hostOps0 (V0 m c) (Proc.devRef .tc main_v0) = _
    after_results_simp <;> rfl
  rw [h]
  unfold Cert.Spec.tapRow Cert.Spec.tapCol
  pointwise []

/-- The reshape writes no other array. -/
theorem kept1 (b : Ref sig .tc) (h : b ≠ main_v0) : V1 m c (Proc.devRef .tc b) = m ((c.tc : Thread nD τ).loc b) :=
  V1_of m c b fun hb => h (List.mem_singleton.mp hb)

/-- The second call finds every array but the reshaped taps and the first call's output as launched. -/
theorem kept2 (b : Ref sig .tc) (h : b ≠ main_v0) (h' : b ≠ main_v1) : Run.V2' m c (Proc.devRef .tc b) = m ((c.tc : Thread nD τ).loc b) :=
  (Run.V2'_ne m c b h').trans (kept1 m c b h)

variable (hX : ∀ i, x m c i = (((x m c i : EReal).toReal : ℝ) : EReal)) (hQ : ∀ i, wq m c i = (((wq m c i : EReal).toReal : ℝ) : EReal))
variable (hD : ∀ i, wd m c i = (((wd m c i : EReal).toReal : ℝ) : EReal)) (hP : ∀ i, wp m c i = (((wp m c i : EReal).toReal : ℝ) : EReal))

include hX hP in
/-- What the first call leaves. -/
theorem mid_real (b : Fin 8) (o d : Fin 384) :
    (Run.mid m c : Vec Idealize.ShloMosaic.Ideal S8x384x384 .f32) (ix3 b o d) = ((∑ e : Fin 384, (args m c).Wp o e * Cert.Spec.attM (args m c) b e d : ℝ) : EReal) := by
  have h : Run.mid m c = Attn.final (Run.W1 m) c := Attn.arr_eq (Run.W1 m) c
  rw [h]
  refine Attn.final_real (Run.W1 m) c (args m c) (fun b e i j => ?_) (fun o d => ?_) b o d
  · exact (congrFun (kept1 m c main_arg0 (by decide)) (ix4 b e i j)).trans (hX _)
  · exact (congrFun (kept1 m c main_arg3 (by decide)) (ix2 o d)).trans (hP _)

include hX hQ hD hP in
/-- What the second call leaves: the kernel's result. -/
theorem result_real (b : Fin 8) (o : Fin 384) (i j : Fin 128) :
    (Run.result m c : Vec Idealize.ShloMosaic.Ideal S8x384x128x128 .f32) (ix4 b o i j) = ((Cert.Spec.out (args m c) b o i j : ℝ) : EReal) := by
  have h : Run.result m c = Conv.final (Run.W2 m) c := Conv.arr_eq (Run.W2 m) c
  rw [h, ← Cert.Spec.out_eq]
  refine Conv.final_real (Run.W2 m) c (args m c) (fun b o d => ∑ e : Fin 384, (args m c).Wp o e * Cert.Spec.attM (args m c) b e d)
    (fun b e i j => ?_) (fun d e => ?_) (fun d k => ?_) (fun b o d => ?_) b o i j
  · exact (congrFun (kept2 m c main_arg0 (by decide) (by decide)) (ix4 b e i j)).trans (hX _)
  · exact (congrFun (kept2 m c main_arg1 (by decide) (by decide)) (ix2 d e)).trans (hQ _)
  · exact (congrFun (Run.V2'_ne m c main_v0 (by decide)) (ix2 d k)).trans ((taps m c d k).trans (hD _))
  · exact (congrFun (Run.V2'_out m c) (ix3 b o d)).trans (mid_real m c hX hP b o d)

/-! ## The claim -/

/-- An index of a result, by its four coordinates. -/
theorem by_coords (f g : S8x384x128x128.Idx → EReal) (h : ∀ b o i j, f (ix4 b o i j) = g (ix4 b o i j)) : f = g := by
  funext i
  have hi : i = ix4 (i 0) (i 1) (i 2) (i 3) := by
    funext d
    fin_cases d <;> rfl
  rw [hi]
  exact h _ _ _ _

include hX hQ hD hP in
/-- The reference's result from the same arguments. -/
theorem reference_eq (m' : (ℓ : Loc Cert.ReferenceIdeal.nD Cert.ReferenceIdeal.τ Cert.ReferenceIdeal.sig) → Buf (Elt Idealize.ShloMosaic.Ideal) ℓ)
    (h0 : m' ((c.tc : Thread Cert.ReferenceIdeal.nD Cert.ReferenceIdeal.τ).loc Cert.ReferenceIdeal.main_arg0) = x m c)
    (h1 : m' ((c.tc : Thread Cert.ReferenceIdeal.nD Cert.ReferenceIdeal.τ).loc Cert.ReferenceIdeal.main_arg1) = wq m c)
    (h2 : m' ((c.tc : Thread Cert.ReferenceIdeal.nD Cert.ReferenceIdeal.τ).loc Cert.ReferenceIdeal.main_arg2) = wd m c)
    (h3 : m' ((c.tc : Thread Cert.ReferenceIdeal.nD Cert.ReferenceIdeal.τ).loc Cert.ReferenceIdeal.main_arg3) = wp m c) :
    Cert.ReferenceIdeal.Value.res_main_v88 m' c = Run.result m c := by
  rw [Cert.ReferenceIdeal.Steps.result_eq, h0, h1, h2, h3]
  refine by_coords _ _ fun b o i j => ?_
  refine (Cert.ReferenceIdeal.Steps.out_real (args m c) (x m c) (wq m c) (wp m c) (wd m c) (fun _ _ _ _ => hX _) (fun _ _ => hQ _) (fun _ _ _ => hD _) (fun _ _ => hP _) b o i j).trans ?_
  exact (result_real m c hX hQ hD hP b o i j).symm

end Cert.Algebraic

namespace Cert.Frames

open Idealize.ShloMosaic Idealize.SL.Sem

variable [Cert.Pre_finite.Facts]

/-- The frames restated at the precondition. -/
theorem kernelIdeal_finite : Cert.quiescent_KernelIdeal_pre_finite := fun m ρ _ => kernelIdeal m ρ trivial

/-- The same of the reference. -/
theorem referenceIdeal_finite : Cert.quiescent_ReferenceIdeal_pre_finite := fun m ρ _ => referenceIdeal m ρ trivial

/-- From finite arguments, the kernel over the extended reals and the reference end with equal results. -/
theorem algebraic : Cert.algebraic_KernelIdeal_ReferenceIdeal_pre_finite := fun m ρ m' ρ' hpre hagree =>
  ⟨fun c => Cert.KernelIdeal.Run.result m c,
    (θ_run Cert.KernelIdeal.defs _ _).mono (fun _ h c => ⟨(h.1 c).2, (h.1 c).1⟩) (Cert.KernelIdeal.Run.run m ρ),
    (θ_run Cert.ReferenceIdeal.defs _ _).mono (fun _ h c => ⟨(h c).1.trans (by
        obtain ⟨hX, hQ, hD, hP⟩ := Cert.Pre_finite.opened _ _ _ _ (hpre c)
        exact Cert.Algebraic.reference_eq m c hX hQ hD hP m' (hagree c).1 (hagree c).2.1 (hagree c).2.2.1 (hagree c).2.2.2), (h c).2⟩)
      (Cert.ReferenceIdeal.Value.run (F := Idealize.ShloMosaic.Ideal) m' ρ')⟩

end Cert.Frames

end
-- ==== Proof.lean ====
/-
  The certificate's claim, assembled: the frames, the named constants, and the equality of the kernel's and the reference's
  results over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

/-- Everything that this certificate claims. -/
theorem claim : Cert.Claim :=
  ⟨Cert.Kernel.Gen.facts, Cert.KernelIdeal.Gen.facts, Cert.ReferenceIdeal.Gen.facts, Cert.Pre_finite.facts,
    Cert.Frames.kernel, Cert.Frames.kernelIdeal, Cert.Frames.kernelIdeal_finite, Cert.Frames.referenceIdeal,
    Cert.Frames.referenceIdeal_finite, Cert.Frames.preserves, Cert.Frames.algebraic⟩

end Cert.Proof

end
